-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_rois [hPre_unit_rois : Cert.Pre_unit_rois.Facts] (m : (ℓ : Loc Cert.KernelIdeal.nD Cert.KernelIdeal.τ Cert.KernelIdeal.sig) → Buf (Elt Ideal) ℓ) : Prop :=
  ∀ c : Dev Cert.KernelIdeal.nD,
    (Cert.Pre_unit_rois.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_rois [hPre_unit_rois : Cert.Pre_unit_rois.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_rois.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unit_rois [hKernelIdeal : Cert.KernelIdeal.Facts] [hPre_unit_rois : Cert.Pre_unit_rois.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_rois m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unit_rois [hReferenceIdeal : Cert.ReferenceIdeal.Facts] [hPre_unit_rois : Cert.Pre_unit_rois.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_rois m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unit_rois [hKernelIdeal : Cert.KernelIdeal.Facts] [hReferenceIdeal : Cert.ReferenceIdeal.Facts] [hPre_unit_rois : Cert.Pre_unit_rois.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_rois m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unit_rois : Cert.Pre_unit_rois.Facts),
    quiescent_Kernel (hKernel := hKernel)
    ∧ quiescent_KernelIdeal (hKernelIdeal := hKernelIdeal)
    ∧ quiescent_KernelIdeal_pre_unit_rois (hKernelIdeal := hKernelIdeal) (hPre_unit_rois := hPre_unit_rois)
    ∧ quiescent_ReferenceIdeal (hReferenceIdeal := hReferenceIdeal)
    ∧ quiescent_ReferenceIdeal_pre_unit_rois (hReferenceIdeal := hReferenceIdeal) (hPre_unit_rois := hPre_unit_rois)
    ∧ preserves_Kernel_KernelIdeal
    ∧ algebraic_KernelIdeal_ReferenceIdeal_pre_unit_rois (hKernelIdeal := hKernelIdeal) (hReferenceIdeal := hReferenceIdeal) (hPre_unit_rois := hPre_unit_rois)
-- ==== Pre_unit_rois.lean ====
abbrev S1x128x256x256 : Shape := ⟨4, ![1, 128, 256, 256]⟩
abbrev S5000x6 : Shape := ⟨2, ![5000, 6]⟩
abbrev S_ : Shape := ⟨0, ![]⟩

class Facts : Prop where
  bcast_S_S5000x6 : S_.BroadcastsInDim S5000x6 (![] : Fin 0 → Fin S5000x6.rank)

variable [Facts]

def fn {F : FTy → Type} [FloatOps F] (main_arg0 : FVec F S1x128x256x256 .f32) (main_arg1 : FVec F S5000x6 .f32) : IVec S5000x6 1 :=
  let main_cst : FVec F S_ .f32 := constant S_ .f32 0x00000000#32
  let main_v0 : FVec F S5000x6 .f32 := broadcastInDim S5000x6 ![] bcast_S_S5000x6 main_cst
  let main_v1 : IVec S5000x6 1 := cmpf .oge main_arg1 main_v0
  let main_cst_0 : FVec F S_ .f32 := constant S_ .f32 0x3F800000#32
  let main_v2 : FVec F S5000x6 .f32 := broadcastInDim S5000x6 ![] bcast_S_S5000x6 main_cst_0
  let main_v3 : IVec S5000x6 1 := cmpf .olt main_arg1 main_v2
  let main_v4 : IVec S5000x6 1 := andi main_v1 main_v3
  main_v4
-- ==== Kernel.lean ====
abbrev S1x128x256x256 : Shape := ⟨4, ![1, 128, 256, 256]⟩
abbrev S5000x6 : Shape := ⟨2, ![5000, 6]⟩
abbrev S_ : Shape := ⟨0, ![]⟩
abbrev S5000x8 : Shape := ⟨2, ![5000, 8]⟩
abbrev S1x128x1x1 : Shape := ⟨4, ![1, 128, 1, 1]⟩
abbrev S128 : Shape := ⟨1, ![128]⟩
abbrev S128x1 : Shape := ⟨2, ![128, 1]⟩
abbrev S128x49 : Shape := ⟨2, ![128, 49]⟩
abbrev S5000x128x49 : Shape := ⟨3, ![5000, 128, 49]⟩
abbrev S5000x128x7x7 : Shape := ⟨4, ![5000, 128, 7, 7]⟩
abbrev S200x8 : Shape := ⟨2, ![200, 8]⟩
abbrev S200x128x49 : Shape := ⟨3, ![200, 128, 49]⟩
abbrev S200x1 : Shape := ⟨2, ![200, 1]⟩
abbrev S1x49 : Shape := ⟨2, ![1, 49]⟩
abbrev S200x49 : Shape := ⟨2, ![200, 49]⟩
abbrev S200x1x49 : Shape := ⟨3, ![200, 1, 49]⟩
abbrev S1x128x49 : Shape := ⟨3, ![1, 128, 49]⟩

abbrev nBuf : Space → Nat
  | .hbm => 11
  | .vmem => 5
  | .smem => 0
  | _ => 0

abbrev bufTy : (tb : Table) → Fin (tcTables nBuf tb) → BufTy
  | .hbm, ⟨0, _⟩ => ⟨S1x128x256x256, .f32⟩
  | .hbm, ⟨1, _⟩ => ⟨S5000x6, .f32⟩
  | .hbm, ⟨2, _⟩ => ⟨S_, .i32⟩
  | .hbm, ⟨3, _⟩ => ⟨S_, .f32⟩
  | .hbm, ⟨4, _⟩ => ⟨S5000x8, .f32⟩
  | .hbm, ⟨5, _⟩ => ⟨S1x128x1x1, .f32⟩
  | .hbm, ⟨6, _⟩ => ⟨S128, .f32⟩
  | .hbm, ⟨7, _⟩ => ⟨S128x1, .f32⟩
  | .hbm, ⟨8, _⟩ => ⟨S128x49, .f32⟩
  | .hbm, ⟨9, _⟩ => ⟨S5000x128x49, .f32⟩
  | .hbm, ⟨10, _⟩ => ⟨S5000x128x7x7, .f32⟩
  | .local _ .vmem, ⟨0, _⟩ => ⟨S200x8, .f32⟩
  | .local _ .vmem, ⟨1, _⟩ => ⟨S200x8, .f32⟩
  | .local _ .vmem, ⟨2, _⟩ => ⟨S128x49, .f32⟩
  | .local _ .vmem, ⟨3, _⟩ => ⟨S200x128x49, .f32⟩
  | .local _ .vmem, ⟨4, _⟩ => ⟨S200x128x49, .f32⟩
  | _, _ => ⟨S1x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_call0_v0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x49 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x128x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x128x256x256 : Shape := ⟨4, ![1, 128, 256, 256]⟩
abbrev S5000x6 : Shape := ⟨2, ![5000, 6]⟩
abbrev S5000x1 : Shape := ⟨2, ![5000, 1]⟩
abbrev S5000 : Shape := ⟨1, ![5000]⟩
abbrev S5000x5 : Shape := ⟨2, ![5000, 5]⟩
abbrev S_ : Shape := ⟨0, ![]⟩
abbrev S6 : Shape := ⟨1, ![6]⟩
abbrev S1 : Shape := ⟨1, ![1]⟩
abbrev S7 : Shape := ⟨1, ![7]⟩
abbrev S7x7 : Shape := ⟨2, ![7, 7]⟩
abbrev S49 : Shape := ⟨1, ![49]⟩
abbrev S1x49 : Shape := ⟨2, ![1, 49]⟩
abbrev S5000x49 : Shape := ⟨2, ![5000, 49]⟩
abbrev S1x256x256x128 : Shape := ⟨4, ![1, 256, 256, 128]⟩
abbrev S5000x49x1 : Shape := ⟨3, ![5000, 49, 1]⟩
abbrev S5000x49x3 : Shape := ⟨3, ![5000, 49, 3]⟩
abbrev S5000x49x128 : Shape := ⟨3, ![5000, 49, 128]⟩
abbrev S5000x128x49 : Shape := ⟨3, ![5000, 128, 49]⟩
abbrev S5000x128x7x7 : Shape := ⟨4, ![5000, 128, 7, 7]⟩

abbrev nBuf : Space → Nat
  | .hbm => 444
  | .vmem => 0
  | .smem => 0
  | _ => 0

abbrev hbmTy0_0 (i : Nat) : BufTy := match i % 128 with
  | 0 => ⟨S1x128x256x256, .f32⟩
  | 1 => ⟨S5000x6, .f32⟩
  | 2 => ⟨S5000x1, .f32⟩
  | 3 => ⟨S5000, .f32⟩
  | 4 => ⟨S5000, .i32⟩
  | 5 => ⟨S5000x5, .f32⟩
  | 6 => ⟨S_, .f32⟩
  | 7 => ⟨S5000x5, .f32⟩
  | 8 => ⟨S5000x5, .f32⟩
  | 9 => ⟨S5000x1, .f32⟩
  | 10 => ⟨S5000, .f32⟩
  | 11 => ⟨S5000x1, .f32⟩
  | 12 => ⟨S5000x1, .f32⟩
  | 13 => ⟨S5000, .f32⟩
  | 14 => ⟨S5000x1, .f32⟩
  | 15 => ⟨S5000x1, .f32⟩
  | 16 => ⟨S5000, .f32⟩
  | 17 => ⟨S5000x1, .f32⟩
  | 18 => ⟨S5000x1, .f32⟩
  | 19 => ⟨S5000, .f32⟩
  | 20 => ⟨S5000x1, .f32⟩
  | 21 => ⟨S5000x1, .f32⟩
  | 22 => ⟨S5000, .f32⟩
  | 23 => ⟨S5000x1, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S6, .f32⟩
  | 32 => ⟨S_, .f32⟩
  | 33 => ⟨S6, .f32⟩
  | 34 => ⟨S6, .f32⟩
  | 35 => ⟨S1, .f32⟩
  | 36 => ⟨S_, .f32⟩
  | 37 => ⟨S6, .f32⟩
  | 38 => ⟨S6, .f32⟩
  | 39 => ⟨S6, .f32⟩
  | 40 => ⟨S6, .f32⟩
  | 41 => ⟨S1, .f32⟩
  | 42 => ⟨S6, .f32⟩
  | 43 => ⟨S6, .f32⟩
  | 44 => ⟨S6, .f32⟩
  | 45 => ⟨S1, .f32⟩
  | 46 => ⟨S7, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S6, .f32⟩
  | 55 => ⟨S_, .f32⟩
  | 56 => ⟨S6, .f32⟩
  | 57 => ⟨S6, .f32⟩
  | 58 => ⟨S1, .f32⟩
  | 59 => ⟨S_, .f32⟩
  | 60 => ⟨S6, .f32⟩
  | 61 => ⟨S6, .f32⟩
  | 62 => ⟨S6, .f32⟩
  | 63 => ⟨S6, .f32⟩
  | 64 => ⟨S1, .f32⟩
  | 65 => ⟨S6, .f32⟩
  | 66 => ⟨S6, .f32⟩
  | 67 => ⟨S6, .f32⟩
  | 68 => ⟨S1, .f32⟩
  | 69 => ⟨S7, .f32⟩
  | 70 => ⟨S7x7, .f32⟩
  | 71 => ⟨S7x7, .f32⟩
  | 72 => ⟨S49, .f32⟩
  | 73 => ⟨S1x49, .f32⟩
  | 74 => ⟨S49, .f32⟩
  | 75 => ⟨S1x49, .f32⟩
  | 76 => ⟨S5000x1, .f32⟩
  | 77 => ⟨S5000x1, .f32⟩
  | 78 => ⟨S5000x49, .f32⟩
  | 79 => ⟨S5000x49, .f32⟩
  | 80 => ⟨S5000x49, .f32⟩
  | 81 => ⟨S5000x49, .f32⟩
  | 82 => ⟨S5000x49, .f32⟩
  | 83 => ⟨S5000x49, .f32⟩
  | 84 => ⟨S5000x49, .f32⟩
  | 85 => ⟨S5000x49, .f32⟩
  | 86 => ⟨S5000x49, .f32⟩
  | 87 => ⟨S5000x49, .f32⟩
  | 88 => ⟨S5000x49, .f32⟩
  | 89 => ⟨S5000x49, .f32⟩
  | 90 => ⟨S5000x49, .f32⟩
  | 91 => ⟨S5000x49, .f32⟩
  | 92 => ⟨S5000x49, .f32⟩
  | 93 => ⟨S5000x49, .f32⟩
  | 94 => ⟨S5000x49, .f32⟩
  | 95 => ⟨S5000x49, .f32⟩
  | 96 => ⟨S5000x49, .f32⟩
  | 97 => ⟨S5000x49, .f32⟩
  | 98 => ⟨S_, .f32⟩
  | 99 => ⟨S5000x49, .f32⟩
  | 100 => ⟨S5000x49, .f32⟩
  | 101 => ⟨S_, .f32⟩
  | 102 => ⟨S5000x49, .f32⟩
  | 103 => ⟨S5000x49, .f32⟩
  | 104 => ⟨S_, .f32⟩
  | 105 => ⟨S5000x49, .f32⟩
  | 106 => ⟨S5000x49, .f32⟩
  | 107 => ⟨S_, .f32⟩
  | 108 => ⟨S5000x49, .f32⟩
  | 109 => ⟨S5000x49, .f32⟩
  | 110 => ⟨S_, .f32⟩
  | 111 => ⟨S5000x49, .f32⟩
  | 112 => ⟨S5000x49, .f32⟩
  | 113 => ⟨S_, .f32⟩
  | 114 => ⟨S5000x49, .f32⟩
  | 115 => ⟨S5000x49, .f32⟩
  | 116 => ⟨S_, .f32⟩
  | 117 => ⟨S5000x49, .f32⟩
  | 118 => ⟨S5000x49, .f32⟩
  | 119 => ⟨S_, .f32⟩
  | 120 => ⟨S5000x49, .f32⟩
  | 121 => ⟨S5000x49, .f32⟩
  | 122 => ⟨S_, .f32⟩
  | 123 => ⟨S5000x49, .f32⟩
  | 124 => ⟨S5000x49, .f32⟩
  | 125 => ⟨S_, .f32⟩
  | 126 => ⟨S5000x49, .f32⟩
  | 127 => ⟨S5000x49, .f32⟩
  | _ => ⟨S1x128x256x256, .f32⟩

abbrev hbmTy0_1 (i : Nat) : BufTy := match i % 128 with
  | 0 => ⟨S_, .f32⟩
  | 1 => ⟨S5000x49, .f32⟩
  | 2 => ⟨S5000x49, .f32⟩
  | 3 => ⟨S_, .f32⟩
  | 4 => ⟨S5000x49, .f32⟩
  | 5 => ⟨S5000x49, .f32⟩
  | 6 => ⟨S_, .f32⟩
  | 7 => ⟨S5000x49, .f32⟩
  | 8 => ⟨S5000x49, .f32⟩
  | 9 => ⟨S_, .f32⟩
  | 10 => ⟨S5000x49, .f32⟩
  | 11 => ⟨S5000x49, .f32⟩
  | 12 => ⟨S5000x49, .f32⟩
  | 13 => ⟨S5000x49, .f32⟩
  | 14 => ⟨S5000x49, .f32⟩
  | 15 => ⟨S_, .f32⟩
  | 16 => ⟨S5000x49, .f32⟩
  | 17 => ⟨S5000x49, .f32⟩
  | 18 => ⟨S5000x49, .f32⟩
  | 19 => ⟨S_, .f32⟩
  | 20 => ⟨S5000x49, .f32⟩
  | 21 => ⟨S5000x49, .f32⟩
  | 22 => ⟨S1x256x256x128, .f32⟩
  | 23 => ⟨S_, .f32⟩
  | 24 => ⟨S5000x49, .f32⟩
  | 25 => ⟨S5000x49, .i1⟩
  | 26 => ⟨S_, .f32⟩
  | 27 => ⟨S5000x49, .f32⟩
  | 28 => ⟨S5000x49, .i1⟩
  | 29 => ⟨S5000x49, .i1⟩
  | 30 => ⟨S_, .f32⟩
  | 31 => ⟨S5000x49, .f32⟩
  | 32 => ⟨S5000x49, .i1⟩
  | 33 => ⟨S5000x49, .i1⟩
  | 34 => ⟨S_, .f32⟩
  | 35 => ⟨S5000x49, .f32⟩
  | 36 => ⟨S5000x49, .i1⟩
  | 37 => ⟨S5000x49, .i1⟩
  | 38 => ⟨S_, .i32⟩
  | 39 => ⟨S_, .i32⟩
  | 40 => ⟨S_, .f32⟩
  | 41 => ⟨S5000x49, .f32⟩
  | 42 => ⟨S5000x49, .f32⟩
  | 43 => ⟨S_, .f32⟩
  | 44 => ⟨S5000x49, .f32⟩
  | 45 => ⟨S5000x49, .f32⟩
  | 46 => ⟨S5000x49, .i32⟩
  | 47 => ⟨S_, .i32⟩
  | 48 => ⟨S_, .i32⟩
  | 49 => ⟨S_, .f32⟩
  | 50 => ⟨S5000x49, .f32⟩
  | 51 => ⟨S5000x49, .f32⟩
  | 52 => ⟨S_, .f32⟩
  | 53 => ⟨S5000x49, .f32⟩
  | 54 => ⟨S5000x49, .f32⟩
  | 55 => ⟨S5000x49, .i32⟩
  | 56 => ⟨S5000x1, .i32⟩
  | 57 => ⟨S_, .i32⟩
  | 58 => ⟨S5000x1, .i32⟩
  | 59 => ⟨S5000x1, .i1⟩
  | 60 => ⟨S_, .i32⟩
  | 61 => ⟨S5000x1, .i32⟩
  | 62 => ⟨S5000x1, .i32⟩
  | 63 => ⟨S5000x1, .i32⟩
  | 64 => ⟨S_, .i32⟩
  | 65 => ⟨S5000x49, .i32⟩
  | 66 => ⟨S5000x49, .i1⟩
  | 67 => ⟨S_, .i32⟩
  | 68 => ⟨S5000x49, .i32⟩
  | 69 => ⟨S5000x49, .i32⟩
  | 70 => ⟨S5000x49, .i32⟩
  | 71 => ⟨S_, .i32⟩
  | 72 => ⟨S5000x49, .i32⟩
  | 73 => ⟨S5000x49, .i1⟩
  | 74 => ⟨S_, .i32⟩
  | 75 => ⟨S5000x49, .i32⟩
  | 76 => ⟨S5000x49, .i32⟩
  | 77 => ⟨S5000x49, .i32⟩
  | 78 => ⟨S5000x49, .i32⟩
  | 79 => ⟨S5000x49x1, .i32⟩
  | 80 => ⟨S5000x49x1, .i32⟩
  | 81 => ⟨S5000x49x1, .i32⟩
  | 82 => ⟨S5000x49x3, .i32⟩
  | 83 => ⟨S5000x49x128, .f32⟩
  | 84 => ⟨S5000x49x1, .i1⟩
  | 85 => ⟨S5000x49x1, .f32⟩
  | 86 => ⟨S5000x49x128, .f32⟩
  | 87 => ⟨S5000x49x128, .f32⟩
  | 88 => ⟨S_, .f32⟩
  | 89 => ⟨S5000x49, .f32⟩
  | 90 => ⟨S5000x49, .f32⟩
  | 91 => ⟨S_, .f32⟩
  | 92 => ⟨S5000x49, .f32⟩
  | 93 => ⟨S5000x49, .i1⟩
  | 94 => ⟨S_, .f32⟩
  | 95 => ⟨S5000x49, .f32⟩
  | 96 => ⟨S5000x49, .i1⟩
  | 97 => ⟨S5000x49, .i1⟩
  | 98 => ⟨S_, .f32⟩
  | 99 => ⟨S5000x49, .f32⟩
  | 100 => ⟨S5000x49, .i1⟩
  | 101 => ⟨S5000x49, .i1⟩
  | 102 => ⟨S_, .f32⟩
  | 103 => ⟨S5000x49, .f32⟩
  | 104 => ⟨S5000x49, .i1⟩
  | 105 => ⟨S5000x49, .i1⟩
  | 106 => ⟨S_, .i32⟩
  | 107 => ⟨S_, .i32⟩
  | 108 => ⟨S_, .f32⟩
  | 109 => ⟨S5000x49, .f32⟩
  | 110 => ⟨S5000x49, .f32⟩
  | 111 => ⟨S_, .f32⟩
  | 112 => ⟨S5000x49, .f32⟩
  | 113 => ⟨S5000x49, .f32⟩
  | 114 => ⟨S5000x49, .i32⟩
  | 115 => ⟨S_, .i32⟩
  | 116 => ⟨S_, .i32⟩
  | 117 => ⟨S_, .f32⟩
  | 118 => ⟨S5000x49, .f32⟩
  | 119 => ⟨S5000x49, .f32⟩
  | 120 => ⟨S_, .f32⟩
  | 121 => ⟨S5000x49, .f32⟩
  | 122 => ⟨S5000x49, .f32⟩
  | 123 => ⟨S5000x49, .i32⟩
  | 124 => ⟨S5000x1, .i32⟩
  | 125 => ⟨S_, .i32⟩
  | 126 => ⟨S5000x1, .i32⟩
  | 127 => ⟨S5000x1, .i1⟩
  | _ => ⟨S1x128x256x256, .f32⟩

abbrev hbmTy0_2 (i : Nat) : BufTy := match i % 128 with
  | 0 => ⟨S_, .i32⟩
  | 1 => ⟨S5000x1, .i32⟩
  | 2 => ⟨S5000x1, .i32⟩
  | 3 => ⟨S5000x1, .i32⟩
  | 4 => ⟨S_, .i32⟩
  | 5 => ⟨S5000x49, .i32⟩
  | 6 => ⟨S5000x49, .i1⟩
  | 7 => ⟨S_, .i32⟩
  | 8 => ⟨S5000x49, .i32⟩
  | 9 => ⟨S5000x49, .i32⟩
  | 10 => ⟨S5000x49, .i32⟩
  | 11 => ⟨S_, .i32⟩
  | 12 => ⟨S5000x49, .i32⟩
  | 13 => ⟨S5000x49, .i1⟩
  | 14 => ⟨S_, .i32⟩
  | 15 => ⟨S5000x49, .i32⟩
  | 16 => ⟨S5000x49, .i32⟩
  | 17 => ⟨S5000x49, .i32⟩
  | 18 => ⟨S5000x49, .i32⟩
  | 19 => ⟨S5000x49x1, .i32⟩
  | 20 => ⟨S5000x49x1, .i32⟩
  | 21 => ⟨S5000x49x1, .i32⟩
  | 22 => ⟨S5000x49x3, .i32⟩
  | 23 => ⟨S5000x49x128, .f32⟩
  | 24 => ⟨S5000x49x1, .i1⟩
  | 25 => ⟨S5000x49x1, .f32⟩
  | 26 => ⟨S5000x49x128, .f32⟩
  | 27 => ⟨S5000x49x128, .f32⟩
  | 28 => ⟨S_, .f32⟩
  | 29 => ⟨S5000x49, .f32⟩
  | 30 => ⟨S5000x49, .f32⟩
  | 31 => ⟨S_, .f32⟩
  | 32 => ⟨S5000x49, .f32⟩
  | 33 => ⟨S5000x49, .i1⟩
  | 34 => ⟨S_, .f32⟩
  | 35 => ⟨S5000x49, .f32⟩
  | 36 => ⟨S5000x49, .i1⟩
  | 37 => ⟨S5000x49, .i1⟩
  | 38 => ⟨S_, .f32⟩
  | 39 => ⟨S5000x49, .f32⟩
  | 40 => ⟨S5000x49, .i1⟩
  | 41 => ⟨S5000x49, .i1⟩
  | 42 => ⟨S_, .f32⟩
  | 43 => ⟨S5000x49, .f32⟩
  | 44 => ⟨S5000x49, .i1⟩
  | 45 => ⟨S5000x49, .i1⟩
  | 46 => ⟨S_, .i32⟩
  | 47 => ⟨S_, .i32⟩
  | 48 => ⟨S_, .f32⟩
  | 49 => ⟨S5000x49, .f32⟩
  | 50 => ⟨S5000x49, .f32⟩
  | 51 => ⟨S_, .f32⟩
  | 52 => ⟨S5000x49, .f32⟩
  | 53 => ⟨S5000x49, .f32⟩
  | 54 => ⟨S5000x49, .i32⟩
  | 55 => ⟨S_, .i32⟩
  | 56 => ⟨S_, .i32⟩
  | 57 => ⟨S_, .f32⟩
  | 58 => ⟨S5000x49, .f32⟩
  | 59 => ⟨S5000x49, .f32⟩
  | 60 => ⟨S_, .f32⟩
  | 61 => ⟨S5000x49, .f32⟩
  | 62 => ⟨S5000x49, .f32⟩
  | 63 => ⟨S5000x49, .i32⟩
  | 64 => ⟨S5000x1, .i32⟩
  | 65 => ⟨S_, .i32⟩
  | 66 => ⟨S5000x1, .i32⟩
  | 67 => ⟨S5000x1, .i1⟩
  | 68 => ⟨S_, .i32⟩
  | 69 => ⟨S5000x1, .i32⟩
  | 70 => ⟨S5000x1, .i32⟩
  | 71 => ⟨S5000x1, .i32⟩
  | 72 => ⟨S_, .i32⟩
  | 73 => ⟨S5000x49, .i32⟩
  | 74 => ⟨S5000x49, .i1⟩
  | 75 => ⟨S_, .i32⟩
  | 76 => ⟨S5000x49, .i32⟩
  | 77 => ⟨S5000x49, .i32⟩
  | 78 => ⟨S5000x49, .i32⟩
  | 79 => ⟨S_, .i32⟩
  | 80 => ⟨S5000x49, .i32⟩
  | 81 => ⟨S5000x49, .i1⟩
  | 82 => ⟨S_, .i32⟩
  | 83 => ⟨S5000x49, .i32⟩
  | 84 => ⟨S5000x49, .i32⟩
  | 85 => ⟨S5000x49, .i32⟩
  | 86 => ⟨S5000x49, .i32⟩
  | 87 => ⟨S5000x49x1, .i32⟩
  | 88 => ⟨S5000x49x1, .i32⟩
  | 89 => ⟨S5000x49x1, .i32⟩
  | 90 => ⟨S5000x49x3, .i32⟩
  | 91 => ⟨S5000x49x128, .f32⟩
  | 92 => ⟨S5000x49x1, .i1⟩
  | 93 => ⟨S5000x49x1, .f32⟩
  | 94 => ⟨S5000x49x128, .f32⟩
  | 95 => ⟨S5000x49x128, .f32⟩
  | 96 => ⟨S_, .f32⟩
  | 97 => ⟨S5000x49, .f32⟩
  | 98 => ⟨S5000x49, .f32⟩
  | 99 => ⟨S_, .f32⟩
  | 100 => ⟨S5000x49, .f32⟩
  | 101 => ⟨S5000x49, .f32⟩
  | 102 => ⟨S_, .f32⟩
  | 103 => ⟨S5000x49, .f32⟩
  | 104 => ⟨S5000x49, .i1⟩
  | 105 => ⟨S_, .f32⟩
  | 106 => ⟨S5000x49, .f32⟩
  | 107 => ⟨S5000x49, .i1⟩
  | 108 => ⟨S5000x49, .i1⟩
  | 109 => ⟨S_, .f32⟩
  | 110 => ⟨S5000x49, .f32⟩
  | 111 => ⟨S5000x49, .i1⟩
  | 112 => ⟨S5000x49, .i1⟩
  | 113 => ⟨S_, .f32⟩
  | 114 => ⟨S5000x49, .f32⟩
  | 115 => ⟨S5000x49, .i1⟩
  | 116 => ⟨S5000x49, .i1⟩
  | 117 => ⟨S_, .i32⟩
  | 118 => ⟨S_, .i32⟩
  | 119 => ⟨S_, .f32⟩
  | 120 => ⟨S5000x49, .f32⟩
  | 121 => ⟨S5000x49, .f32⟩
  | 122 => ⟨S_, .f32⟩
  | 123 => ⟨S5000x49, .f32⟩
  | 124 => ⟨S5000x49, .f32⟩
  | 125 => ⟨S5000x49, .i32⟩
  | 126 => ⟨S_, .i32⟩
  | 127 => ⟨S_, .i32⟩
  | _ => ⟨S1x128x256x256, .f32⟩

abbrev hbmTy0_3 (i : Nat) : BufTy := match i % 128 with
  | 0 => ⟨S_, .f32⟩
  | 1 => ⟨S5000x49, .f32⟩
  | 2 => ⟨S5000x49, .f32⟩
  | 3 => ⟨S_, .f32⟩
  | 4 => ⟨S5000x49, .f32⟩
  | 5 => ⟨S5000x49, .f32⟩
  | 6 => ⟨S5000x49, .i32⟩
  | 7 => ⟨S5000x1, .i32⟩
  | 8 => ⟨S_, .i32⟩
  | 9 => ⟨S5000x1, .i32⟩
  | 10 => ⟨S5000x1, .i1⟩
  | 11 => ⟨S_, .i32⟩
  | 12 => ⟨S5000x1, .i32⟩
  | 13 => ⟨S5000x1, .i32⟩
  | 14 => ⟨S5000x1, .i32⟩
  | 15 => ⟨S_, .i32⟩
  | 16 => ⟨S5000x49, .i32⟩
  | 17 => ⟨S5000x49, .i1⟩
  | 18 => ⟨S_, .i32⟩
  | 19 => ⟨S5000x49, .i32⟩
  | 20 => ⟨S5000x49, .i32⟩
  | 21 => ⟨S5000x49, .i32⟩
  | 22 => ⟨S_, .i32⟩
  | 23 => ⟨S5000x49, .i32⟩
  | 24 => ⟨S5000x49, .i1⟩
  | 25 => ⟨S_, .i32⟩
  | 26 => ⟨S5000x49, .i32⟩
  | 27 => ⟨S5000x49, .i32⟩
  | 28 => ⟨S5000x49, .i32⟩
  | 29 => ⟨S5000x49, .i32⟩
  | 30 => ⟨S5000x49x1, .i32⟩
  | 31 => ⟨S5000x49x1, .i32⟩
  | 32 => ⟨S5000x49x1, .i32⟩
  | 33 => ⟨S5000x49x3, .i32⟩
  | 34 => ⟨S5000x49x128, .f32⟩
  | 35 => ⟨S5000x49x1, .i1⟩
  | 36 => ⟨S5000x49x1, .f32⟩
  | 37 => ⟨S5000x49x128, .f32⟩
  | 38 => ⟨S5000x49x128, .f32⟩
  | 39 => ⟨S5000x49, .f32⟩
  | 40 => ⟨S5000x49x1, .f32⟩
  | 41 => ⟨S5000x49x128, .f32⟩
  | 42 => ⟨S5000x49x128, .f32⟩
  | 43 => ⟨S5000x49, .f32⟩
  | 44 => ⟨S5000x49x1, .f32⟩
  | 45 => ⟨S5000x49x128, .f32⟩
  | 46 => ⟨S5000x49x128, .f32⟩
  | 47 => ⟨S5000x49x128, .f32⟩
  | 48 => ⟨S5000x49, .f32⟩
  | 49 => ⟨S5000x49x1, .f32⟩
  | 50 => ⟨S5000x49x128, .f32⟩
  | 51 => ⟨S5000x49x128, .f32⟩
  | 52 => ⟨S5000x49x128, .f32⟩
  | 53 => ⟨S5000x49, .f32⟩
  | 54 => ⟨S5000x49x1, .f32⟩
  | 55 => ⟨S5000x49x128, .f32⟩
  | 56 => ⟨S5000x49x128, .f32⟩
  | 57 => ⟨S5000x49x128, .f32⟩
  | 58 => ⟨S5000x128x49, .f32⟩
  | 59 => ⟨S5000x128x7x7, .f32⟩
  | _ => ⟨S1x128x256x256, .f32⟩

abbrev hbmTy (i : Nat) : BufTy := match i / 128 with
  | 0 => hbmTy0_0 i
  | 1 => hbmTy0_1 i
  | 2 => hbmTy0_2 i
  | 3 => hbmTy0_3 i
  | _ => ⟨S1x128x256x256, .f32⟩

abbrev bufTy : (tb : Table) → Fin (tcTables nBuf tb) → BufTy
  | .hbm, ⟨i, _⟩ => hbmTy i
  | _, _ => ⟨S1x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_cst : Ref sig .tc := ⟨.hbm, 29, rfl⟩
abbrev main_call0_v3 : Ref sig .tc := ⟨.hbm, 30, rfl⟩
abbrev main_call0_v4 : Ref sig .tc := ⟨.hbm, 31, rfl⟩
abbrev main_call0_cst_0 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_v21 : Ref sig .tc := ⟨.hbm, 46, rfl⟩
abbrev main_cst_2 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_cst : Ref sig .tc := ⟨.hbm, 52, rfl⟩
abbrev main_call1_v3 : Ref sig .tc := ⟨.hbm, 53, rfl⟩
abbrev main_call1_v4 : Ref sig .tc := ⟨.hbm, 54, rfl⟩
abbrev main_call1_cst_0 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_cst_1 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_v15 : Ref sig .tc := ⟨.hbm, 67, rfl⟩
abbrev main_call1_v16 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_4 : Ref sig .tc := ⟨.hbm, 98, rfl⟩
abbrev main_v51 : Ref sig .tc := ⟨.hbm, 99, rfl⟩
abbrev main_v52 : Ref sig .tc := ⟨.hbm, 100, rfl⟩
abbrev main_cst_5 : Ref sig .tc := ⟨.hbm, 101, rfl⟩
abbrev main_v53 : Ref sig .tc := ⟨.hbm, 102, rfl⟩
abbrev main_v54 : Ref sig .tc := ⟨.hbm, 103, rfl⟩
abbrev main_cst_6 : Ref sig .tc := ⟨.hbm, 104, rfl⟩
abbrev main_v55 : Ref sig .tc := ⟨.hbm, 105, rfl⟩
abbrev main_v56 : Ref sig .tc := ⟨.hbm, 106, rfl⟩
abbrev main_cst_7 : Ref sig .tc := ⟨.hbm, 107, rfl⟩
abbrev main_v57 : Ref sig .tc := ⟨.hbm, 108, rfl⟩
abbrev main_v58 : Ref sig .tc := ⟨.hbm, 109, rfl⟩
abbrev main_cst_8 : Ref sig .tc := ⟨.hbm, 110, rfl⟩
abbrev main_v59 : Ref sig .tc := ⟨.hbm, 111, rfl⟩
abbrev main_v60 : Ref sig .tc := ⟨.hbm, 112, rfl⟩
abbrev main_cst_9 : Ref sig .tc := ⟨.hbm, 113, rfl⟩
abbrev main_v61 : Ref sig .tc := ⟨.hbm, 114, rfl⟩
abbrev main_v62 : Ref sig .tc := ⟨.hbm, 115, rfl⟩
abbrev main_cst_10 : Ref sig .tc := ⟨.hbm, 116, rfl⟩
abbrev main_v63 : Ref sig .tc := ⟨.hbm, 117, rfl⟩
abbrev main_v64 : Ref sig .tc := ⟨.hbm, 118, rfl⟩
abbrev main_cst_11 : Ref sig .tc := ⟨.hbm, 119, rfl⟩
abbrev main_v65 : Ref sig .tc := ⟨.hbm, 120, rfl⟩
abbrev main_v66 : Ref sig .tc := ⟨.hbm, 121, rfl⟩
abbrev main_cst_12 : Ref sig .tc := ⟨.hbm, 122, rfl⟩
abbrev main_v67 : Ref sig .tc := ⟨.hbm, 123, rfl⟩
abbrev main_v68 : Ref sig .tc := ⟨.hbm, 124, rfl⟩
abbrev main_cst_13 : Ref sig .tc := ⟨.hbm, 125, rfl⟩
abbrev main_v69 : Ref sig .tc := ⟨.hbm, 126, rfl⟩
abbrev main_v70 : Ref sig .tc := ⟨.hbm, 127, rfl⟩
abbrev main_cst_14 : Ref sig .tc := ⟨.hbm, 128, rfl⟩
abbrev main_v71 : Ref sig .tc := ⟨.hbm, 129, rfl⟩
abbrev main_v72 : Ref sig .tc := ⟨.hbm, 130, rfl⟩
abbrev main_cst_15 : Ref sig .tc := ⟨.hbm, 131, rfl⟩
abbrev main_v73 : Ref sig .tc := ⟨.hbm, 132, rfl⟩
abbrev main_v74 : Ref sig .tc := ⟨.hbm, 133, rfl⟩
abbrev main_cst_16 : Ref sig .tc := ⟨.hbm, 134, rfl⟩
abbrev main_v75 : Ref sig .tc := ⟨.hbm, 135, rfl⟩
abbrev main_v76 : Ref sig .tc := ⟨.hbm, 136, rfl⟩
abbrev main_cst_17 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_cst_18 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_cst_19 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_cst_20 : Ref sig .tc := ⟨.hbm, 151, rfl⟩
abbrev main_v88 : Ref sig .tc := ⟨.hbm, 152, rfl⟩
abbrev main_v89 : Ref sig .tc := ⟨.hbm, 153, rfl⟩
abbrev main_cst_21 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_cst_22 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_cst_23 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_c : Ref sig .tc := ⟨.hbm, 166, rfl⟩
abbrev main_c_24 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_v99 : Ref sig .tc := ⟨.hbm, 173, rfl⟩
abbrev main_v100 : Ref sig .tc := ⟨.hbm, 174, rfl⟩
abbrev main_c_25 : Ref sig .tc := ⟨.hbm, 175, rfl⟩
abbrev main_c_26 : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_c_27 : Ref sig .tc := ⟨.hbm, 185, rfl⟩
abbrev main_v104 : Ref sig .tc := ⟨.hbm, 186, rfl⟩
abbrev main_v105 : Ref sig .tc := ⟨.hbm, 187, rfl⟩
abbrev main_c_28 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_c_29 : Ref sig .tc := ⟨.hbm, 192, rfl⟩
abbrev main_v109 : Ref sig .tc := ⟨.hbm, 193, rfl⟩
abbrev main_v110 : Ref sig .tc := ⟨.hbm, 194, rfl⟩
abbrev main_c_30 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_c_31 : Ref sig .tc := ⟨.hbm, 199, rfl⟩
abbrev main_v114 : Ref sig .tc := ⟨.hbm, 200, rfl⟩
abbrev main_v115 : Ref sig .tc := ⟨.hbm, 201, rfl⟩
abbrev main_c_32 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_cst_33 : Ref sig .tc := ⟨.hbm, 216, rfl⟩
abbrev main_v129 : Ref sig .tc := ⟨.hbm, 217, rfl⟩
abbrev main_v130 : Ref sig .tc := ⟨.hbm, 218, rfl⟩
abbrev main_cst_34 : Ref sig .tc := ⟨.hbm, 219, rfl⟩
abbrev main_v131 : Ref sig .tc := ⟨.hbm, 220, rfl⟩
abbrev main_v132 : Ref sig .tc := ⟨.hbm, 221, rfl⟩
abbrev main_cst_35 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_cst_36 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_cst_37 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_c_38 : Ref sig .tc := ⟨.hbm, 234, rfl⟩
abbrev main_c_39 : Ref sig .tc := ⟨.hbm, 235, rfl⟩
abbrev main_call4_v0 : Ref sig .tc := ⟨.hbm, 236, rfl⟩
abbrev main_call4_v1 : Ref sig .tc := ⟨.hbm, 237, rfl⟩
abbrev main_call4_v2 : Ref sig .tc := ⟨.hbm, 238, rfl⟩
abbrev main_call4_v3 : Ref sig .tc := ⟨.hbm, 239, rfl⟩
abbrev main_call4_v4 : Ref sig .tc := ⟨.hbm, 240, rfl⟩
abbrev main_v142 : Ref sig .tc := ⟨.hbm, 241, rfl⟩
abbrev main_v143 : Ref sig .tc := ⟨.hbm, 242, rfl⟩
abbrev main_c_40 : Ref sig .tc := ⟨.hbm, 243, rfl⟩
abbrev main_c_41 : Ref sig .tc := ⟨.hbm, 244, rfl⟩
abbrev main_call5_v0 : Ref sig .tc := ⟨.hbm, 245, rfl⟩
abbrev main_call5_v1 : Ref sig .tc := ⟨.hbm, 246, rfl⟩
abbrev main_call5_v2 : Ref sig .tc := ⟨.hbm, 247, rfl⟩
abbrev main_call5_v3 : Ref sig .tc := ⟨.hbm, 248, rfl⟩
abbrev main_call5_v4 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_c_42 : Ref sig .tc := ⟨.hbm, 253, rfl⟩
abbrev main_v147 : Ref sig .tc := ⟨.hbm, 254, rfl⟩
abbrev main_v148 : Ref sig .tc := ⟨.hbm, 255, rfl⟩
abbrev main_c_43 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_c_44 : Ref sig .tc := ⟨.hbm, 260, rfl⟩
abbrev main_v152 : Ref sig .tc := ⟨.hbm, 261, rfl⟩
abbrev main_v153 : Ref sig .tc := ⟨.hbm, 262, rfl⟩
abbrev main_c_45 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_c_46 : Ref sig .tc := ⟨.hbm, 267, rfl⟩
abbrev main_v157 : Ref sig .tc := ⟨.hbm, 268, rfl⟩
abbrev main_v158 : Ref sig .tc := ⟨.hbm, 269, rfl⟩
abbrev main_c_47 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_cst_48 : Ref sig .tc := ⟨.hbm, 284, rfl⟩
abbrev main_v172 : Ref sig .tc := ⟨.hbm, 285, rfl⟩
abbrev main_v173 : Ref sig .tc := ⟨.hbm, 286, rfl⟩
abbrev main_cst_49 : Ref sig .tc := ⟨.hbm, 287, rfl⟩
abbrev main_v174 : Ref sig .tc := ⟨.hbm, 288, rfl⟩
abbrev main_v175 : Ref sig .tc := ⟨.hbm, 289, rfl⟩
abbrev main_cst_50 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_51 : Ref sig .tc := ⟨.hbm, 294, rfl⟩
abbrev main_v179 : Ref sig .tc := ⟨.hbm, 295, rfl⟩
abbrev main_v180 : Ref sig .tc := ⟨.hbm, 296, rfl⟩
abbrev main_v181 : Ref sig .tc := ⟨.hbm, 297, rfl⟩
abbrev main_cst_52 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_c_53 : Ref sig .tc := ⟨.hbm, 302, rfl⟩
abbrev main_c_54 : Ref sig .tc := ⟨.hbm, 303, rfl⟩
abbrev main_call6_v0 : Ref sig .tc := ⟨.hbm, 304, rfl⟩
abbrev main_call6_v1 : Ref sig .tc := ⟨.hbm, 305, rfl⟩
abbrev main_call6_v2 : Ref sig .tc := ⟨.hbm, 306, rfl⟩
abbrev main_call6_v3 : Ref sig .tc := ⟨.hbm, 307, rfl⟩
abbrev main_call6_v4 : Ref sig .tc := ⟨.hbm, 308, rfl⟩
abbrev main_v185 : Ref sig .tc := ⟨.hbm, 309, rfl⟩
abbrev main_v186 : Ref sig .tc := ⟨.hbm, 310, rfl⟩
abbrev main_c_55 : Ref sig .tc := ⟨.hbm, 311, rfl⟩
abbrev main_c_56 : Ref sig .tc := ⟨.hbm, 312, rfl⟩
abbrev main_call7_v0 : Ref sig .tc := ⟨.hbm, 313, rfl⟩
abbrev main_call7_v1 : Ref sig .tc := ⟨.hbm, 314, rfl⟩
abbrev main_call7_v2 : Ref sig .tc := ⟨.hbm, 315, rfl⟩
abbrev main_call7_v3 : Ref sig .tc := ⟨.hbm, 316, rfl⟩
abbrev main_call7_v4 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_c_57 : Ref sig .tc := ⟨.hbm, 321, rfl⟩
abbrev main_v190 : Ref sig .tc := ⟨.hbm, 322, rfl⟩
abbrev main_v191 : Ref sig .tc := ⟨.hbm, 323, rfl⟩
abbrev main_c_58 : Ref sig .tc := ⟨.hbm, 324, rfl⟩
abbrev main_v192 : Ref sig .tc := ⟨.hbm, 325, rfl⟩
abbrev main_v193 : Ref sig .tc := ⟨.hbm, 326, rfl⟩
abbrev main_v194 : Ref sig .tc := ⟨.hbm, 327, rfl⟩
abbrev main_c_59 : Ref sig .tc := ⟨.hbm, 328, rfl⟩
abbrev main_v195 : Ref sig .tc := ⟨.hbm, 329, rfl⟩
abbrev main_v196 : Ref sig .tc := ⟨.hbm, 330, rfl⟩
abbrev main_c_60 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_c_61 : Ref sig .tc := ⟨.hbm, 335, rfl⟩
abbrev main_v200 : Ref sig .tc := ⟨.hbm, 336, rfl⟩
abbrev main_v201 : Ref sig .tc := ⟨.hbm, 337, rfl⟩
abbrev main_c_62 : Ref sig .tc := ⟨.hbm, 338, rfl⟩
abbrev main_v202 : Ref sig .tc := ⟨.hbm, 339, rfl⟩
abbrev main_v203 : Ref sig .tc := ⟨.hbm, 340, rfl⟩
abbrev main_v204 : Ref sig .tc := ⟨.hbm, 341, rfl⟩
abbrev main_v205 : Ref sig .tc := ⟨.hbm, 342, rfl⟩
abbrev main_v206 : Ref sig .tc := ⟨.hbm, 343, rfl⟩
abbrev main_v207 : Ref sig .tc := ⟨.hbm, 344, rfl⟩
abbrev main_v208 : Ref sig .tc := ⟨.hbm, 345, rfl⟩
abbrev main_v209 : Ref sig .tc := ⟨.hbm, 346, rfl⟩
abbrev main_v210 : Ref sig .tc := ⟨.hbm, 347, rfl⟩
abbrev main_v211 : Ref sig .tc := ⟨.hbm, 348, rfl⟩
abbrev main_v212 : Ref sig .tc := ⟨.hbm, 349, rfl⟩
abbrev main_v213 : Ref sig .tc := ⟨.hbm, 350, rfl⟩
abbrev main_v214 : Ref sig .tc := ⟨.hbm, 351, rfl⟩
abbrev main_cst_63 : Ref sig .tc := ⟨.hbm, 352, rfl⟩
abbrev main_v215 : Ref sig .tc := ⟨.hbm, 353, rfl⟩
abbrev main_v216 : Ref sig .tc := ⟨.hbm, 354, rfl⟩
abbrev main_cst_64 : Ref sig .tc := ⟨.hbm, 355, rfl⟩
abbrev main_v217 : Ref sig .tc := ⟨.hbm, 356, rfl⟩
abbrev main_v218 : Ref sig .tc := ⟨.hbm, 357, rfl⟩
abbrev main_cst_65 : Ref sig .tc := ⟨.hbm, 358, rfl⟩
abbrev main_v219 : Ref sig .tc := ⟨.hbm, 359, rfl⟩
abbrev main_v220 : Ref sig .tc := ⟨.hbm, 360, rfl⟩
abbrev main_cst_66 : Ref sig .tc := ⟨.hbm, 361, rfl⟩
abbrev main_v221 : Ref sig .tc := ⟨.hbm, 362, rfl⟩
abbrev main_v222 : Ref sig .tc := ⟨.hbm, 363, rfl⟩
abbrev main_v223 : Ref sig .tc := ⟨.hbm, 364, rfl⟩
abbrev main_cst_67 : Ref sig .tc := ⟨.hbm, 365, rfl⟩
abbrev main_v224 : Ref sig .tc := ⟨.hbm, 366, rfl⟩
abbrev main_v225 : Ref sig .tc := ⟨.hbm, 367, rfl⟩
abbrev main_v226 : Ref sig .tc := ⟨.hbm, 368, rfl⟩
abbrev main_cst_68 : Ref sig .tc := ⟨.hbm, 369, rfl⟩
abbrev main_v227 : Ref sig .tc := ⟨.hbm, 370, rfl⟩
abbrev main_v228 : Ref sig .tc := ⟨.hbm, 371, rfl⟩
abbrev main_v229 : Ref sig .tc := ⟨.hbm, 372, rfl⟩
abbrev main_c_69 : Ref sig .tc := ⟨.hbm, 373, rfl⟩
abbrev main_c_70 : Ref sig .tc := ⟨.hbm, 374, rfl⟩
abbrev main_call8_v0 : Ref sig .tc := ⟨.hbm, 375, rfl⟩
abbrev main_call8_v1 : Ref sig .tc := ⟨.hbm, 376, rfl⟩
abbrev main_call8_v2 : Ref sig .tc := ⟨.hbm, 377, rfl⟩
abbrev main_call8_v3 : Ref sig .tc := ⟨.hbm, 378, rfl⟩
abbrev main_call8_v4 : Ref sig .tc := ⟨.hbm, 379, rfl⟩
abbrev main_v230 : Ref sig .tc := ⟨.hbm, 380, rfl⟩
abbrev main_v231 : Ref sig .tc := ⟨.hbm, 381, rfl⟩
abbrev main_c_71 : Ref sig .tc := ⟨.hbm, 382, rfl⟩
abbrev main_c_72 : Ref sig .tc := ⟨.hbm, 383, rfl⟩
abbrev main_call9_v0 : Ref sig .tc := ⟨.hbm, 384, rfl⟩
abbrev main_call9_v1 : Ref sig .tc := ⟨.hbm, 385, rfl⟩
abbrev main_call9_v2 : Ref sig .tc := ⟨.hbm, 386, rfl⟩
abbrev main_call9_v3 : Ref sig .tc := ⟨.hbm, 387, rfl⟩
abbrev main_call9_v4 : Ref sig .tc := ⟨.hbm, 388, rfl⟩
abbrev main_v232 : Ref sig .tc := ⟨.hbm, 389, rfl⟩
abbrev main_v233 : Ref sig .tc := ⟨.hbm, 390, rfl⟩
abbrev main_v234 : Ref sig .tc := ⟨.hbm, 391, rfl⟩
abbrev main_c_73 : Ref sig .tc := ⟨.hbm, 392, rfl⟩
abbrev main_v235 : Ref sig .tc := ⟨.hbm, 393, rfl⟩
abbrev main_v236 : Ref sig .tc := ⟨.hbm, 394, rfl⟩
abbrev main_c_74 : Ref sig .tc := ⟨.hbm, 395, rfl⟩
abbrev main_v237 : Ref sig .tc := ⟨.hbm, 396, rfl⟩
abbrev main_v238 : Ref sig .tc := ⟨.hbm, 397, rfl⟩
abbrev main_v239 : Ref sig .tc := ⟨.hbm, 398, rfl⟩
abbrev main_c_75 : Ref sig .tc := ⟨.hbm, 399, rfl⟩
abbrev main_v240 : Ref sig .tc := ⟨.hbm, 400, rfl⟩
abbrev main_v241 : Ref sig .tc := ⟨.hbm, 401, rfl⟩
abbrev main_c_76 : Ref sig .tc := ⟨.hbm, 402, rfl⟩
abbrev main_v242 : Ref sig .tc := ⟨.hbm, 403, rfl⟩
abbrev main_v243 : Ref sig .tc := ⟨.hbm, 404, rfl⟩
abbrev main_v244 : Ref sig .tc := ⟨.hbm, 405, rfl⟩
abbrev main_c_77 : Ref sig .tc := ⟨.hbm, 406, rfl⟩
abbrev main_v245 : Ref sig .tc := ⟨.hbm, 407, rfl⟩
abbrev main_v246 : Ref sig .tc := ⟨.hbm, 408, rfl⟩
abbrev main_c_78 : Ref sig .tc := ⟨.hbm, 409, rfl⟩
abbrev main_v247 : Ref sig .tc := ⟨.hbm, 410, rfl⟩
abbrev main_v248 : Ref sig .tc := ⟨.hbm, 411, rfl⟩
abbrev main_v249 : Ref sig .tc := ⟨.hbm, 412, rfl⟩
abbrev main_v250 : Ref sig .tc := ⟨.hbm, 413, rfl⟩
abbrev main_v251 : Ref sig .tc := ⟨.hbm, 414, rfl⟩
abbrev main_v252 : Ref sig .tc := ⟨.hbm, 415, rfl⟩
abbrev main_v253 : Ref sig .tc := ⟨.hbm, 416, rfl⟩
abbrev main_v254 : Ref sig .tc := ⟨.hbm, 417, rfl⟩
abbrev main_v255 : Ref sig .tc := ⟨.hbm, 418, rfl⟩
abbrev main_v256 : Ref sig .tc := ⟨.hbm, 419, rfl⟩
abbrev main_v257 : Ref sig .tc := ⟨.hbm, 420, rfl⟩
abbrev main_v258 : Ref sig .tc := ⟨.hbm, 421, rfl⟩
abbrev main_v259 : Ref sig .tc := ⟨.hbm, 422, rfl⟩
abbrev main_v260 : Ref sig .tc := ⟨.hbm, 423, rfl⟩
abbrev main_v261 : Ref sig .tc := ⟨.hbm, 424, rfl⟩
abbrev main_v262 : Ref sig .tc := ⟨.hbm, 425, rfl⟩
abbrev main_v263 : Ref sig .tc := ⟨.hbm, 426, rfl⟩
abbrev main_v264 : Ref sig .tc := ⟨.hbm, 427, rfl⟩
abbrev main_v265 : Ref sig .tc := ⟨.hbm, 428, rfl⟩
abbrev main_v266 : Ref sig .tc := ⟨.hbm, 429, rfl⟩
abbrev main_v267 : Ref sig .tc := ⟨.hbm, 430, rfl⟩
abbrev main_v268 : Ref sig .tc := ⟨.hbm, 431, rfl⟩
abbrev main_v269 : Ref sig .tc := ⟨.hbm, 432, rfl⟩
abbrev main_v270 : Ref sig .tc := ⟨.hbm, 433, rfl⟩
abbrev main_v271 : Ref sig .tc := ⟨.hbm, 434, rfl⟩
abbrev main_v272 : Ref sig .tc := ⟨.hbm, 435, rfl⟩
abbrev main_v273 : Ref sig .tc := ⟨.hbm, 436, rfl⟩
abbrev main_v274 : Ref sig .tc := ⟨.hbm, 437, rfl⟩
abbrev main_v275 : Ref sig .tc := ⟨.hbm, 438, rfl⟩
abbrev main_v276 : Ref sig .tc := ⟨.hbm, 439, rfl⟩
abbrev main_v277 : Ref sig .tc := ⟨.hbm, 440, rfl⟩
abbrev main_v278 : Ref sig .tc := ⟨.hbm, 441, rfl⟩
abbrev main_v279 : Ref sig .tc := ⟨.hbm, 442, rfl⟩
abbrev main_v280 : Ref sig .tc := ⟨.hbm, 443, rfl⟩

abbrev nD : Nat := 1
abbrev τ : Topo := Topo.v7x

variable {F : FTy → Type} [FloatOps F]
-- ==== Proof.Consts.lean ====
/- The float literals of the two programs, each as the real number it denotes. -/
module

public import Idealize.ShloMosaic.PureOps.Ideal

@[expose] public section

noncomputable section

namespace Cert.Proof.Consts

open Idealize.ShloMosaic

/-- The pattern of `0.0` denotes `0`. -/
theorem lit_zero : Ideal.ofBits .f32 0x00000000#32 = ((0 : ℝ) : EReal) := by
  simp [Ideal.ofBits, Ideal.ieee, -EReal.coe_mul]

/-- The pattern of `1.0` denotes `1`. -/
theorem lit_one : Ideal.ofBits .f32 0x3F800000#32 = ((1 : ℝ) : EReal) := by
  simp [Ideal.ofBits, Ideal.ieee, -EReal.coe_mul]; norm_num

/-- The pattern of `2.0` denotes `2`. -/
theorem lit_two : Ideal.ofBits .f32 0x40000000#32 = ((2 : ℝ) : EReal) := by
  simp [Ideal.ofBits, Ideal.ieee, -EReal.coe_mul]; norm_num

/-- The pattern of `6.0` denotes `6`. -/
theorem lit_six : Ideal.ofBits .f32 0x40C00000#32 = ((6 : ℝ) : EReal) := by
  simp [Ideal.ofBits, Ideal.ieee, -EReal.coe_mul]; norm_num

/-- The pattern of `255.0` denotes `255`. -/
theorem lit_255 : Ideal.ofBits .f32 0x437F0000#32 = ((255 : ℝ) : EReal) := by
  simp [Ideal.ofBits, Ideal.ieee, -EReal.coe_mul]; norm_num

/-- The pattern of `256.0` denotes `256`. -/
theorem lit_256 : Ideal.ofBits .f32 0x43800000#32 = ((256 : ℝ) : EReal) := by
  simp [Ideal.ofBits, Ideal.ieee, -EReal.coe_mul]; norm_num

/-- The pattern of `0.25` denotes `1 / 4`. -/
theorem lit_quarter : Ideal.ofBits .f32 0x3E800000#32 = ((1 / 4 : ℝ) : EReal) := by
  simp [Ideal.ofBits, Ideal.ieee, -EReal.coe_mul]; norm_num

/-- The pattern of `0.5` denotes `1 / 2`. -/
theorem lit_half : Ideal.ofBits .f32 0x3F000000#32 = ((1 / 2 : ℝ) : EReal) := by
  simp [Ideal.ofBits, Ideal.ieee, -EReal.coe_mul]; norm_num

/-- The pattern of `-0.5` denotes `-1 / 2`. -/
theorem lit_neg_half : Ideal.ofBits .f32 0xBF000000#32 = ((-(1 / 2) : ℝ) : EReal) := by
  simp [Ideal.ofBits, Ideal.ieee, -EReal.coe_mul]; norm_num

end Cert.Proof.Consts

end

end
-- ==== Proof.Geometry.lean ====
/- The mathematics the two programs share: where a sampling point of a region lies, and the one weight that counts.

   A region is six numbers `r 0 … r 5` (batch, centre x, centre y, width, height, angle), each in `[0, 1)`. Scaled by
   the spatial scale `1/4`, its 7 × 7 sampling points all lie so near the origin of a 256 × 256 map that their pixel
   positions are in `(-1, 0)`: the lower corner of the bilinear cell is pixel `-1` on both axes, outside the map, and
   the only corner inside is pixel `(0, 0)`, the upper one on both axes. -/
module

public import Mathlib.Analysis.Complex.Trigonometric
public import Mathlib.Algebra.Order.Floor.Ring
public import Mathlib.Tactic.Linarith
public import Mathlib.Tactic.NormNum
public import Mathlib.Tactic.Ring

@[expose] public section

noncomputable section

namespace Cert.Proof.Geometry

/-- The x coordinate of sampling point `p` (row-major in the 7 × 7 grid) in the unit box centred at the origin. -/
def baseX (p : ℕ) : ℝ := ((p % 7 : ℕ) : ℝ) / 6 - 1 / 2

/-- The y coordinate of sampling point `p`. -/
def baseY (p : ℕ) : ℝ := ((p / 7 : ℕ) : ℝ) / 6 - 1 / 2

/-- The x coordinate of sampling point `p` of region `r`: scaled, turned by the angle, moved to the centre. -/
def sampleX (r : Fin 6 → ℝ) (p : ℕ) : ℝ :=
  baseX p * (r 3 * (1 / 4)) * Real.cos (r 5 * (1 / 4)) - baseY p * (r 4 * (1 / 4)) * Real.sin (r 5 * (1 / 4))
    + r 1 * (1 / 4)

/-- The y coordinate of sampling point `p` of region `r`. -/
def sampleY (r : Fin 6 → ℝ) (p : ℕ) : ℝ :=
  baseX p * (r 3 * (1 / 4)) * Real.sin (r 5 * (1 / 4)) + baseY p * (r 4 * (1 / 4)) * Real.cos (r 5 * (1 / 4))
    + r 2 * (1 / 4)

/-- The pixel position of coordinate `t`: normalised to `[-1, 1]`, then mapped to pixel centres of 256 pixels. -/
def gridPos (t : ℝ) : ℝ := ((2 * t / 255 - 1 + 1) * 256 - 1) / 2

/-- The bilinear weight of pixel `(0, 0)` at sampling point `p` of region `r`. -/
def weight (r : Fin 6 → ℝ) (p : ℕ) : ℝ := (gridPos (sampleY r p) + 1) * (gridPos (sampleX r p) + 1)

/-- A coordinate in `(-1/4, 9/20)` has its pixel position in `[-1, 0)`. -/
theorem floor_gridPos {t : ℝ} (h1 : -(1 / 4) < t) (h2 : t < 9 / 20) : ⌊gridPos t⌋ = -1 := by
  rw [Int.floor_eq_iff]
  unfold gridPos
  constructor <;> push_cast <;> linarith

/-- A base coordinate is in `[-1/2, 1/2]`. -/
theorem abs_baseX (p : ℕ) : |baseX p| ≤ 1 / 2 := by
  have h : p % 7 ≤ 6 := by omega
  have h' : ((p % 7 : ℕ) : ℝ) ≤ 6 := by exact_mod_cast h
  have h0 : (0 : ℝ) ≤ ((p % 7 : ℕ) : ℝ) := Nat.cast_nonneg _
  unfold baseX; rw [abs_le]; constructor <;> linarith

/-- The same on the other axis, for a point of the 7 × 7 grid. -/
theorem abs_baseY {p : ℕ} (hp : p < 49) : |baseY p| ≤ 1 / 2 := by
  have h : p / 7 ≤ 6 := by omega
  have h' : ((p / 7 : ℕ) : ℝ) ≤ 6 := by exact_mod_cast h
  have h0 : (0 : ℝ) ≤ ((p / 7 : ℕ) : ℝ) := Nat.cast_nonneg _
  unfold baseY; rw [abs_le]; constructor <;> linarith

/-- A base coordinate times a scaled side is in `[-1/8, 1/8]`. -/
theorem abs_side {b s : ℝ} (hb : |b| ≤ 1 / 2) (h0 : 0 ≤ s) (h1 : s < 1) : |b * (s * (1 / 4))| ≤ 1 / 8 := by
  rw [abs_mul, abs_of_nonneg (by linarith : 0 ≤ s * (1 / 4))]
  nlinarith [abs_nonneg b]

/-- The sine of an angle in `[0, 1/4)` is at most `1/2` in absolute value. -/
theorem abs_sin_quarter {s : ℝ} (h0 : 0 ≤ s) (h1 : s < 1) : |Real.sin (s * (1 / 4))| ≤ 1 / 2 := by
  have hx : |s * (1 / 4)| ≤ 1 / 4 := by rw [abs_of_nonneg (by linarith : 0 ≤ s * (1 / 4))]; linarith
  have h := Real.sin_bound (hx.trans (by norm_num))
  have h5 : |s * (1 / 4)| ^ 5 ≤ 1 := pow_le_one₀ (abs_nonneg _) (hx.trans (by norm_num))
  have h3 : |s * (1 / 4)| ^ 3 ≤ 1 / 64 := (pow_le_pow_left₀ (abs_nonneg _) hx 3).trans (by norm_num)
  rw [← abs_pow] at h3
  have e1 := abs_le.1 h
  have e3 := abs_le.1 h3
  have ex := abs_le.1 hx
  rw [abs_le]; constructor <;> linarith

/-- A product of two numbers with bounded absolute values. -/
theorem mul_bound {a b x y : ℝ} (ha : |a| ≤ x) (hb : |b| ≤ y) : |a * b| ≤ x * y := by
  rw [abs_mul]
  exact mul_le_mul ha hb (abs_nonneg _) (le_trans (abs_nonneg _) ha)

/-- With all six numbers in `[0, 1)` every sampling point's pixel column position floors to `-1`. -/
theorem floor_sampleX {r : Fin 6 → ℝ} (hr : ∀ j, 0 ≤ r j ∧ r j < 1) {p : ℕ} (hp : p < 49) :
    ⌊gridPos (sampleX r p)⌋ = -1 := by
  have e1 := abs_le.1 (mul_bound (abs_side (abs_baseX p) (hr 3).1 (hr 3).2) (Real.abs_cos_le_one (r 5 * (1 / 4))))
  have e2 := abs_le.1 (mul_bound (abs_side (abs_baseY hp) (hr 4).1 (hr 4).2) (abs_sin_quarter (hr 5).1 (hr 5).2))
  have h1 := hr 1
  exact floor_gridPos (by unfold sampleX; linarith) (by unfold sampleX; linarith)

/-- The same for the pixel row position. -/
theorem floor_sampleY {r : Fin 6 → ℝ} (hr : ∀ j, 0 ≤ r j ∧ r j < 1) {p : ℕ} (hp : p < 49) :
    ⌊gridPos (sampleY r p)⌋ = -1 := by
  have e1 := abs_le.1 (mul_bound (abs_side (abs_baseX p) (hr 3).1 (hr 3).2) (abs_sin_quarter (hr 5).1 (hr 5).2))
  have e2 := abs_le.1 (mul_bound (abs_side (abs_baseY hp) (hr 4).1 (hr 4).2) (Real.abs_cos_le_one (r 5 * (1 / 4))))
  have h2 := hr 2
  exact floor_gridPos (by unfold sampleY; linarith) (by unfold sampleY; linarith)

end Cert.Proof.Geometry

end

end
-- ==== Proof.Target.lean ====
/- The array both programs compute, stated once, and the extended-real facts their arithmetic is read by. -/
module

public import proofs.«01_k».proof.Proof.Consts
public import proofs.«01_k».proof.Proof.Geometry
public import Idealize.ShloMosaic.Lib.ValueIdx

@[expose] public section

noncomputable section

namespace Cert.Proof.Target

open Idealize.ShloMosaic Idealize.ShloMosaic.ValueIdx Cert.Proof.Geometry

/-- An array of regions with every entry in `[0, 1)`. -/
def InUnit (y : (⟨2, ![5000, 6]⟩ : Shape).Idx → ℝ) : Prop := ∀ i, 0 ≤ y i ∧ y i < 1

/-- An array of real numbers as an array of extended reals. -/
def lift (y : (⟨2, ![5000, 6]⟩ : Shape).Idx → ℝ) : (⟨2, ![5000, 6]⟩ : Shape).Idx → EReal := fun i => ((y i : ℝ) : EReal)

/-- The six numbers of region `k`. -/
def region (y : (⟨2, ![5000, 6]⟩ : Shape).Idx → ℝ) (k : Fin 5000) : Fin 6 → ℝ := fun j => y (ix2 k j)

/-- The result before the last axis is split into 7 × 7: at region `k`, channel `c`, sampling point `p` the weight of
    pixel `(0, 0)` times the feature map's entry at that pixel. -/
def expected (x0 : (⟨4, ![1, 128, 256, 256]⟩ : Shape).Idx → EReal) (y : (⟨2, ![5000, 6]⟩ : Shape).Idx → ℝ)
    (k : Fin 5000) (c : Fin 128) (p : Fin 49) : EReal :=
  ((weight (region y k) p.val : ℝ) : EReal) * x0 (ix4 (0 : Fin 1) c (0 : Fin 256) (0 : Fin 256))

/-- A region of an array in the unit range has its numbers in `[0, 1)`. -/
theorem region_unit {y : (⟨2, ![5000, 6]⟩ : Shape).Idx → ℝ} (hy : InUnit y) (k : Fin 5000) (j : Fin 6) :
    0 ≤ region y k j ∧ region y k j < 1 := hy _

/-- Division of a real number by a nonzero one, among the extended reals. -/
theorem div_real (a : ℝ) {b : ℝ} (hb : b ≠ 0) : Ideal.div (a : EReal) (b : EReal) = ((a / b : ℝ) : EReal) := by
  rw [Ideal.div_coe hb, ← EReal.coe_mul, mul_one_div]

/-- The position map in the extended reals, the last step a division by two. -/
theorem grid_div (t : ℝ) :
    Ideal.div ((Ideal.div (((2 : ℝ) : EReal) * (t : EReal)) ((255 : ℝ) : EReal) - ((1 : ℝ) : EReal) + ((1 : ℝ) : EReal))
        * ((256 : ℝ) : EReal) - ((1 : ℝ) : EReal)) ((2 : ℝ) : EReal) = ((gridPos t : ℝ) : EReal) := by
  rw [← EReal.coe_mul, div_real _ (by norm_num), ← EReal.coe_sub, ← EReal.coe_add, ← EReal.coe_mul, ← EReal.coe_sub,
    div_real _ (by norm_num)]
  rfl

/-- The position map in the extended reals, the last step a product with one half. -/
theorem grid_mul (t : ℝ) :
    (Ideal.div (((2 : ℝ) : EReal) * (t : EReal)) ((255 : ℝ) : EReal) - ((1 : ℝ) : EReal) + ((1 : ℝ) : EReal))
        * ((256 : ℝ) : EReal) - ((1 : ℝ) : EReal) = ((2 * gridPos t : ℝ) : EReal) := by
  rw [← EReal.coe_mul, div_real _ (by norm_num), ← EReal.coe_sub, ← EReal.coe_add, ← EReal.coe_mul, ← EReal.coe_sub]
  congr 1
  unfold gridPos; ring

/-- Ordered `≥` of two real numbers, `true`. -/
theorem oge_one {a b : ℝ} (h : b ≤ a) :
    FloatOps.cmpf (F := Ideal) (φ := .f32) .oge ((a : ℝ) : EReal) ((b : ℝ) : EReal) = 1#1 := by
  show BitVec.ofBool (decide (((b : ℝ) : EReal) ≤ ((a : ℝ) : EReal))) = 1#1
  rw [decide_eq_true (EReal.coe_le_coe_iff.2 h)]; rfl

/-- Ordered `≥` of two real numbers, `false`. -/
theorem oge_zero {a b : ℝ} (h : a < b) :
    FloatOps.cmpf (F := Ideal) (φ := .f32) .oge ((a : ℝ) : EReal) ((b : ℝ) : EReal) = 0#1 := by
  show BitVec.ofBool (decide (((b : ℝ) : EReal) ≤ ((a : ℝ) : EReal))) = 0#1
  rw [decide_eq_false (not_le.2 (EReal.coe_lt_coe_iff.2 h))]; rfl

/-- Ordered `≤` of two real numbers, `true`. -/
theorem ole_one {a b : ℝ} (h : a ≤ b) :
    FloatOps.cmpf (F := Ideal) (φ := .f32) .ole ((a : ℝ) : EReal) ((b : ℝ) : EReal) = 1#1 := by
  show BitVec.ofBool (decide (((a : ℝ) : EReal) ≤ ((b : ℝ) : EReal))) = 1#1
  rw [decide_eq_true (EReal.coe_le_coe_iff.2 h)]; rfl

/-- A mask bit that is `0` on the right clears the conjunction. -/
theorem andi_zero_right (a : BitVec 1) : IntOp.andi a 0#1 = 0#1 := by
  show a &&& 0#1 = 0#1
  simp

/-- A mask bit that is `0` on the left clears the conjunction. -/
theorem andi_zero_left (a : BitVec 1) : IntOp.andi 0#1 a = 0#1 := by
  show 0#1 &&& a = 0#1
  simp

/-- A number in `[0, 1)` rounds toward zero to the word `0`. -/
theorem trunc_unit {a : ℝ} (h0 : 0 ≤ a) (h1 : a < 1) :
    FloatOps.fptosi (F := Ideal) (φ := .f32) 32 ((a : ℝ) : EReal) = 0#32 := by
  have hf : ⌊a⌋ = 0 := Int.floor_eq_zero_iff.2 ⟨h0, h1⟩
  show BitVec.ofInt 32 (Ideal.toIntClamped _ _ ((a : ℝ) : EReal)) = 0#32
  rw [Ideal.toIntClamped_coe, if_pos h0, hf]
  rfl

end Cert.Proof.Target

end

end
-- ==== Proof.KernelBlock.lean ====
/- What the kernel's body leaves in its output block, from the two blocks it reads: at row `r`, channel `c`, sampling
   point `p` the weight of pixel `(0, 0)` at point `p` of the row's region, times the pixel block's entry at `(c, p)`. -/
module

public import proofs.«01_k».proof.Proof.Target
public import proofs.«01_k».proof.Proof.Gen.KernelIdeal.Frame
public import Idealize.ShloMosaic.Lib.Pipeline.Value
public import Idealize.ShloMosaic.Lib.ValueLayout
public import Idealize.ShloMosaic.Lib.IdealHost
public import Idealize.ShloMosaic.Lib.WordArith

@[expose] public section

noncomputable section

namespace Cert.Proof.KernelBlock

open Idealize.ShloMosaic Idealize.ShloMosaic.ValueIdx
open Cert.KernelIdeal Cert.KernelIdeal.Gen
open Cert.Proof.Geometry Cert.Proof.Target Cert.Proof.Consts

/-! ## The base coordinates -/

/-- The word whose 32 bits are a small natural number, as a float. -/
theorem word_nat (n : ℕ) (h : n < 2 ^ 31) :
    FloatOps.sitofp (F := Ideal) .f32 (BitVec.ofNat 32 n) = ((n : ℝ) : EReal) := by
  show ((((BitVec.ofNat 32 n).toInt : ℤ) : ℝ) : EReal) = ((n : ℝ) : EReal)
  rw [WordArith.toInt_ofNat_small n h]; norm_num

/-- The remainder by seven the body computes (signs corrected), on the word of a sampling point. -/
theorem remainder_word : ∀ p : Fin 49,
    Scalar.select
      (IntOp.andi
        (IntOp.xori
          (IntOp.cmpi .slt (IntOp.remsi .vector (BitVec.ofNat 32 p.val) (Scalar.select (Scalar.cmpi .eq 7#32 0#32) 1#32 7#32)) 0#32)
          (Scalar.cmpi .slt (Scalar.select (Scalar.cmpi .eq 7#32 0#32) 1#32 7#32) 0#32))
        (IntOp.cmpi .ne (IntOp.remsi .vector (BitVec.ofNat 32 p.val) (Scalar.select (Scalar.cmpi .eq 7#32 0#32) 1#32 7#32)) 0#32))
      (IntOp.addi (IntOp.remsi .vector (BitVec.ofNat 32 p.val) (Scalar.select (Scalar.cmpi .eq 7#32 0#32) 1#32 7#32))
        (Scalar.select (Scalar.cmpi .eq 7#32 0#32) 1#32 7#32))
      (IntOp.remsi .vector (BitVec.ofNat 32 p.val) (Scalar.select (Scalar.cmpi .eq 7#32 0#32) 1#32 7#32))
    = BitVec.ofNat 32 (p.val % 7) := by decide +kernel

/-- The quotient by seven the body computes (rounded down), on the word of a sampling point. -/
theorem quotient_word : ∀ p : Fin 49,
    Scalar.select
      (IntOp.andi
        (IntOp.cmpi .ne
          (IntOp.subi (BitVec.setWidth 32 (IntOp.cmpi .sgt (BitVec.ofNat 32 p.val) 0#32))
            (BitVec.setWidth 32 (IntOp.cmpi .slt (BitVec.ofNat 32 p.val) 0#32)))
          (Scalar.subi (Scalar.extui (Scalar.cmpi .sgt 7#32 0#32)) (Scalar.extui (Scalar.cmpi .slt 7#32 0#32))))
        (IntOp.cmpi .ne (IntOp.remsi .vector (BitVec.ofNat 32 p.val) 7#32) 0#32))
      (IntOp.subi (IntOp.divsi .vector (BitVec.ofNat 32 p.val) 7#32) 1#32)
      (IntOp.divsi .vector (BitVec.ofNat 32 p.val) 7#32)
    = BitVec.ofNat 32 (p.val / 7) := by decide +kernel

/-- The position along the point axis, as a word. -/
theorem point_word (p : Fin 49) :
    iota .tc S1x49 32 [1] iota_S1x49_d1_w32 (ix2 (0 : Fin 1) p) = BitVec.ofNat 32 p.val :=
  iota_single_apply .tc S1x49 32 1 iota_S1x49_d1_w32 (ix2 (0 : Fin 1) p)

/-- A sixth of a small word, less one half. -/
theorem sixth (n : ℕ) (h : n < 2 ^ 31) :
    FloatOps.subf (F := Ideal) (FloatOps.divf (FloatOps.sitofp .f32 (BitVec.ofNat 32 n)) (Scalar.ofBits .f32 0x40C00000#32))
        (Scalar.ofBits .f32 0x3F000000#32) = (((n : ℝ) / 6 - 1 / 2 : ℝ) : EReal) := by
  rw [word_nat n h]
  show Ideal.div ((n : ℝ) : EReal) (Ideal.ofBits .f32 0x40C00000#32) - Ideal.ofBits .f32 0x3F000000#32 = _
  rw [lit_six, lit_half, div_real _ (by norm_num), ← EReal.coe_sub]

/-- The base x coordinates. -/
theorem pointX (p : Fin 49) : k0_pay10 (F := Ideal) (ix2 (0 : Fin 1) p) = ((baseX p.val : ℝ) : EReal) := by
  have hw := remainder_word p
  rw [← point_word p] at hw
  refine Eq.trans ?_ (sixth (p.val % 7) (by omega))
  exact congrArg (fun w => FloatOps.subf (F := Ideal) (FloatOps.divf (FloatOps.sitofp .f32 w) (Scalar.ofBits .f32 0x40C00000#32))
        (Scalar.ofBits .f32 0x3F000000#32)) hw

/-! ## Shapes -/

/-- A row vector spread over the rows of the block. -/
theorem spread_row {α : Type} (v : S1x49.Idx → α) (r : Fin 200) (p : Fin 49) :
    broadcastTo S200x49 v broadcasts_S1x49_S200x49 (ix2 r p) = v (ix2 (0 : Fin 1) p) :=
  broadcastTo_1b_ab_apply v broadcasts_S1x49_S200x49 r p

/-- A column vector spread over the points of the block. -/
theorem spread_column {α : Type} (v : S200x1.Idx → α) (r : Fin 200) (p : Fin 49) :
    broadcastTo S200x49 v broadcasts_S200x1_S200x49 (ix2 r p) = v (ix2 r (0 : Fin 1)) :=
  broadcastTo_apply v broadcasts_S200x1_S200x49 (ix2 r p) (ix2 r (0 : Fin 1)) fun a =>
    match a with
    | ⟨0, _⟩ => rfl
    | ⟨1, _⟩ => rfl

/-- The base y coordinate times a column. -/
theorem pointY (v : FVec Ideal S200x1 .f32) (r : Fin 200) (p : Fin 49) :
    k0_pay13 v (iota .tc S1x49 32 [1] iota_S1x49_d1_w32) 7#32 k0_pay11 (ix2 r p)
      = ((baseY p.val : ℝ) : EReal) * v (ix2 r (0 : Fin 1)) := by
  have hw := quotient_word p
  rw [← point_word p] at hw
  have hs := (congrArg (fun w => FloatOps.subf (F := Ideal) (FloatOps.divf (FloatOps.sitofp .f32 w)
    (Scalar.ofBits .f32 0x40C00000#32)) (Scalar.ofBits .f32 0x3F000000#32)) hw).trans (sixth (p.val / 7) (by omega))
  unfold k0_pay13
  refine congrArg₂ (FloatOps.mulf (F := Ideal) (φ := .f32)) ((spread_row _ r p).trans ?_) (spread_column v r p)
  exact hs

/-! ## The block of regions -/

/-- Zero offsets on two axes. -/
theorem zeros2 : (![0, 0] : Fin 2 → ℕ) = fun _ => 0 := by
  funext a; fin_cases a <;> rfl

/-- Zero offsets on three axes. -/
theorem zeros3 : (![0, 0, 0] : Fin 3 → ℕ) = fun _ => 0 := by
  funext a; fin_cases a <;> rfl

/-- A load of the whole block reads it. -/
theorem whole_regions (x : S200x8.Idx → EReal) : View.ld (Val := Elt Ideal) (e' := .f32) x r0_0 = x :=
  View.ld_unit_zero (Val := Elt Ideal) (e := .f32) (S := S200x8) zeros2 inb_S200x8_S200x8_0_0 x

/-- Half of twice a real number. -/
theorem half_twice (a : ℝ) : ((2 * a : ℝ) : EReal) * ((1 / 2 : ℝ) : EReal) = ((a : ℝ) : EReal) := by
  rw [← EReal.coe_mul]; congr 1; ring

/-- The block's rows hold, in their first six columns, the real numbers `q`. -/
def Rows (x0 : S200x8.Idx → EReal) (q : Fin 200 → Fin 6 → ℝ) : Prop :=
  ∀ (r : Fin 200) (j : Fin 6), x0 (ix2 r (⟨j.val, j.isLt.trans (by decide)⟩ : Fin 8)) = ((q r j : ℝ) : EReal)

variable {x0 : S200x8.Idx → EReal} {q : Fin 200 → Fin 6 → ℝ} (hx : Rows x0 q)

section Columns
include hx

/-- One column of the block, scaled by the spatial scale. -/
theorem scaled (n : ℕ) (j : Fin 6) (hn : n = j.val) (h : S200x8.Slices ![0, n] S200x1) (r : Fin 200) :
    FloatOps.mulf (F := Ideal) (φ := .f32) (extractStridedSlice S200x1 ![0, n] (k0_pay2 (F := Ideal) x0) h (ix2 r (0 : Fin 1)))
      (Scalar.ofBits .f32 0x3E800000#32) = ((q r j * (1 / 4) : ℝ) : EReal) := by
  have e : extractStridedSlice S200x1 ![0, n] (k0_pay2 (F := Ideal) x0) h (ix2 r (0 : Fin 1)) = ((q r j : ℝ) : EReal) := by
    refine (extractStridedSlice_apply _ _ h _ (ix2 r (⟨j.val, j.isLt.trans (by decide)⟩ : Fin 8)) fun a => ?_).trans ?_
    · match a with
      | ⟨0, _⟩ => exact (Nat.zero_add r.val).symm
      | ⟨1, _⟩ => exact hn.symm
    · show shapeCast S200x8 x0 shapeCasts_S200x8_S200x8 _ = _
      rw [shapeCast_self]; exact hx r j
  rw [e]
  show ((q r j : ℝ) : EReal) * Ideal.ofBits .f32 0x3E800000#32 = _
  rw [lit_quarter, ← EReal.coe_mul]

/-- The scaled centre x. -/
theorem centreX (r : Fin 200) : k0_pay3 (F := Ideal) x0 (ix2 r (0 : Fin 1)) = ((q r 1 * (1 / 4) : ℝ) : EReal) :=
  scaled hx 1 1 rfl _ r

/-- The scaled centre y. -/
theorem centreY (r : Fin 200) : k0_pay4 (F := Ideal) x0 (ix2 r (0 : Fin 1)) = ((q r 2 * (1 / 4) : ℝ) : EReal) :=
  scaled hx 2 2 rfl _ r

/-- The scaled width. -/
theorem width (r : Fin 200) : k0_pay5 (F := Ideal) x0 (ix2 r (0 : Fin 1)) = ((q r 3 * (1 / 4) : ℝ) : EReal) :=
  scaled hx 3 3 rfl _ r

/-- The scaled height. -/
theorem height (r : Fin 200) : k0_pay6 (F := Ideal) x0 (ix2 r (0 : Fin 1)) = ((q r 4 * (1 / 4) : ℝ) : EReal) :=
  scaled hx 4 4 rfl _ r

/-- The scaled angle. -/
theorem angle (r : Fin 200) : k0_pay7 (F := Ideal) x0 (ix2 r (0 : Fin 1)) = ((q r 5 * (1 / 4) : ℝ) : EReal) :=
  scaled hx 5 5 rfl _ r

/-- The angle's cosine. -/
theorem cosine (r : Fin 200) :
    k0_pay8 (F := Ideal) x0 (ix2 r (0 : Fin 1)) = ((Real.cos (q r 5 * (1 / 4)) : ℝ) : EReal) := by
  show Ideal.cos (k0_pay7 (F := Ideal) x0 (ix2 r (0 : Fin 1))) = _
  rw [angle hx, Ideal.cos_coe]

/-- The angle's sine. -/
theorem sine (r : Fin 200) :
    k0_pay9 (F := Ideal) x0 (ix2 r (0 : Fin 1)) = ((Real.sin (q r 5 * (1 / 4)) : ℝ) : EReal) := by
  show Ideal.sin (k0_pay7 (F := Ideal) x0 (ix2 r (0 : Fin 1))) = _
  rw [angle hx, Ideal.sin_coe]

/-- The sampling point's offset along the region's own x axis. -/
theorem alongX (r : Fin 200) (p : Fin 49) :
    k0_pay12 (F := Ideal) (k0_pay5 x0) k0_pay10 (ix2 r p) = ((baseX p.val * (q r 3 * (1 / 4)) : ℝ) : EReal) := by
  show broadcastTo S200x49 (k0_pay10 (F := Ideal)) broadcasts_S1x49_S200x49 (ix2 r p)
    * broadcastTo S200x49 (k0_pay5 (F := Ideal) x0) broadcasts_S200x1_S200x49 (ix2 r p) = _
  rw [spread_row, spread_column, pointX, width hx, ← EReal.coe_mul]

/-- The sampling point's offset along the region's own y axis. -/
theorem alongY (r : Fin 200) (p : Fin 49) :
    k0_pay13 (F := Ideal) (k0_pay6 x0) (iota .tc S1x49 32 [1] iota_S1x49_d1_w32) 7#32 k0_pay11 (ix2 r p)
      = ((baseY p.val * (q r 4 * (1 / 4)) : ℝ) : EReal) := by
  rw [pointY, height hx, ← EReal.coe_mul]

variable (x1 : S128x49.Idx → EReal)

/-- The sampling point's y coordinate. -/
theorem sampledY (r : Fin 200) (p : Fin 49) :
    k0_pay33 (F := Ideal) x0 x1 (ix2 r p) = ((sampleY (q r) p.val : ℝ) : EReal) := by
  unfold k0_pay33 k0_pay27 k0_pay28 k0_pay29 k0_pay30 k0_pay31 k0_pay26 k0_pay32
  rw [whole_regions]
  show (k0_pay12 (F := Ideal) (k0_pay5 x0) k0_pay10 (ix2 r p)
      * broadcastTo S200x49 (k0_pay9 (F := Ideal) x0) broadcasts_S200x1_S200x49 (ix2 r p)
    + k0_pay13 (F := Ideal) (k0_pay6 x0) (iota .tc S1x49 32 [1] iota_S1x49_d1_w32) 7#32 k0_pay11 (ix2 r p)
      * broadcastTo S200x49 (k0_pay8 (F := Ideal) x0) broadcasts_S200x1_S200x49 (ix2 r p))
    + broadcastTo S200x49 (k0_pay4 (F := Ideal) x0) broadcasts_S200x1_S200x49 (ix2 r p) = _
  rw [spread_column, spread_column, spread_column, alongX hx, alongY hx, sine hx, cosine hx, centreY hx,
    ← EReal.coe_mul, ← EReal.coe_mul, ← EReal.coe_add, ← EReal.coe_add]
  rfl

/-- Twice the sampling point's x coordinate. -/
theorem sampledX (r : Fin 200) (p : Fin 49) :
    k0_pay34 (F := Ideal) x0 x1 (ix2 r p) = ((2 : ℝ) : EReal) * ((sampleX (q r) p.val : ℝ) : EReal) := by
  unfold k0_pay34 k0_pay27 k0_pay28 k0_pay29 k0_pay30 k0_pay31 k0_pay26 k0_pay32
  rw [whole_regions]
  show Ideal.ofBits .f32 0x40000000#32 * ((k0_pay12 (F := Ideal) (k0_pay5 x0) k0_pay10 (ix2 r p)
      * broadcastTo S200x49 (k0_pay8 (F := Ideal) x0) broadcasts_S200x1_S200x49 (ix2 r p)
    - k0_pay13 (F := Ideal) (k0_pay6 x0) (iota .tc S1x49 32 [1] iota_S1x49_d1_w32) 7#32 k0_pay11 (ix2 r p)
      * broadcastTo S200x49 (k0_pay9 (F := Ideal) x0) broadcasts_S200x1_S200x49 (ix2 r p))
    + broadcastTo S200x49 (k0_pay3 (F := Ideal) x0) broadcasts_S200x1_S200x49 (ix2 r p)) = _
  rw [spread_column, spread_column, spread_column, alongX hx, alongY hx, sine hx, cosine hx, centreX hx, lit_two,
    ← EReal.coe_mul (baseX _ * _), ← EReal.coe_mul (baseY _ * _), ← EReal.coe_sub, ← EReal.coe_add]
  rfl

/-- The pixel column position. -/
theorem pixelX (r : Fin 200) (p : Fin 49) :
    k0_pay17 (F := Ideal) (k0_pay34 x0 x1) (k0_pay35 x0 x1) (ix2 r p) = ((gridPos (sampleX (q r) p.val) : ℝ) : EReal) := by
  show ((Ideal.div (k0_pay34 (F := Ideal) x0 x1 (ix2 r p)) (Ideal.ofBits .f32 0x437F0000#32)
      - Ideal.ofBits .f32 0x3F800000#32 + Ideal.ofBits .f32 0x3F800000#32) * Ideal.ofBits .f32 0x43800000#32
      - Ideal.ofBits .f32 0x3F800000#32) * Ideal.ofBits .f32 0x3F000000#32 = _
  rw [sampledX hx, lit_255, lit_one, lit_256, lit_half, grid_mul]
  exact half_twice _

/-- The pixel row position. -/
theorem pixelY (r : Fin 200) (p : Fin 49) :
    k0_pay18 (F := Ideal) (k0_pay33 x0 x1) (ix2 r p) = ((gridPos (sampleY (q r) p.val) : ℝ) : EReal) := by
  show ((Ideal.div (Ideal.ofBits .f32 0x40000000#32 * k0_pay33 (F := Ideal) x0 x1 (ix2 r p)) (Ideal.ofBits .f32 0x437F0000#32)
      - Ideal.ofBits .f32 0x3F800000#32 + Ideal.ofBits .f32 0x3F800000#32) * Ideal.ofBits .f32 0x43800000#32
      - Ideal.ofBits .f32 0x3F800000#32) * Ideal.ofBits .f32 0x3F000000#32 = _
  rw [sampledY hx, lit_two, lit_255, lit_one, lit_256, lit_half, grid_mul]
  exact half_twice _

end Columns

/-! ## The mask and the weight -/

section Weight
include hx
variable (hq : ∀ r j, 0 ≤ q r j ∧ q r j < 1) (x1 : S128x49.Idx → EReal)
include hq

/-- The lower pixel column is `-1`. -/
theorem lowX (r : Fin 200) (p : Fin 49) :
    k0_pay19 (F := Ideal) (k0_pay34 x0 x1) (k0_pay35 x0 x1) (ix2 r p) = ((-1 : ℝ) : EReal) := by
  show Ideal.liftRound Int.floor (k0_pay17 (F := Ideal) (k0_pay34 x0 x1) (k0_pay35 x0 x1) (ix2 r p)) = _
  rw [pixelX hx, Ideal.liftRound_coe, floor_sampleX (hq r) p.isLt]
  norm_num

/-- The lower pixel row is `-1`. -/
theorem lowY (r : Fin 200) (p : Fin 49) :
    k0_pay20 (F := Ideal) (k0_pay33 x0 x1) (ix2 r p) = ((-1 : ℝ) : EReal) := by
  show Ideal.liftRound Int.floor (k0_pay18 (F := Ideal) (k0_pay33 x0 x1) (ix2 r p)) = _
  rw [pixelY hx, Ideal.liftRound_coe, floor_sampleY (hq r) p.isLt]
  norm_num

/-- The weight along x. -/
theorem fractionX (r : Fin 200) (p : Fin 49) :
    k0_pay21 (F := Ideal) (k0_pay34 x0 x1) (k0_pay35 x0 x1) (ix2 r p)
      = ((gridPos (sampleX (q r) p.val) + 1 : ℝ) : EReal) := by
  show k0_pay17 (F := Ideal) (k0_pay34 x0 x1) (k0_pay35 x0 x1) (ix2 r p)
    - k0_pay19 (F := Ideal) (k0_pay34 x0 x1) (k0_pay35 x0 x1) (ix2 r p) = _
  rw [pixelX hx, lowX hx hq, ← EReal.coe_sub, sub_neg_eq_add]

/-- The weight along y. -/
theorem fractionY (r : Fin 200) (p : Fin 49) :
    k0_pay22 (F := Ideal) (k0_pay33 x0 x1) (ix2 r p) = ((gridPos (sampleY (q r) p.val) + 1 : ℝ) : EReal) := by
  show k0_pay18 (F := Ideal) (k0_pay33 x0 x1) (ix2 r p) - k0_pay20 (F := Ideal) (k0_pay33 x0 x1) (ix2 r p) = _
  rw [pixelY hx, lowY hx hq, ← EReal.coe_sub, sub_neg_eq_add]

/-- The upper pixel row is `0`. -/
theorem highY (r : Fin 200) (p : Fin 49) : k0_pay23 (F := Ideal) (k0_pay33 x0 x1) (ix2 r p) = ((0 : ℝ) : EReal) := by
  show k0_pay20 (F := Ideal) (k0_pay33 x0 x1) (ix2 r p) + Ideal.ofBits .f32 0x3F800000#32 = _
  rw [lowY hx hq, lit_one, ← EReal.coe_add]; norm_num

/-- The part of the mask that looks at the column and the row's lower bound is `1`. -/
theorem mask (r : Fin 200) (p : Fin 49) :
    k0_pay24 (F := Ideal) (k0_pay33 x0 x1) (k0_pay34 x0 x1) (k0_pay35 x0 x1) (ix2 r p) = 1#1 := by
  have hX : k0_pay19 (F := Ideal) (k0_pay34 x0 x1) (k0_pay35 x0 x1) (ix2 r p) + Ideal.ofBits .f32 0x3F800000#32
      = ((0 : ℝ) : EReal) := by
    rw [lowX hx hq, lit_one, ← EReal.coe_add]; norm_num
  show IntOp.andi (IntOp.andi
      (FloatOps.cmpf (F := Ideal) (φ := .f32) .oge
        (k0_pay19 (F := Ideal) (k0_pay34 x0 x1) (k0_pay35 x0 x1) (ix2 r p) + Ideal.ofBits .f32 0x3F800000#32)
        (Ideal.ofBits .f32 0x00000000#32))
      (FloatOps.cmpf (F := Ideal) (φ := .f32) .ole
        (k0_pay19 (F := Ideal) (k0_pay34 x0 x1) (k0_pay35 x0 x1) (ix2 r p) + Ideal.ofBits .f32 0x3F800000#32)
        (Ideal.ofBits .f32 0x437F0000#32)))
      (FloatOps.cmpf (F := Ideal) (φ := .f32) .oge (k0_pay23 (F := Ideal) (k0_pay33 x0 x1) (ix2 r p))
        (Ideal.ofBits .f32 0x00000000#32)) = 1#1
  rw [hX, highY hx hq, lit_zero, lit_255, oge_one le_rfl, ole_one (show (0 : ℝ) ≤ 255 by norm_num)]
  rfl

/-- What the body stores at row `r`, channel `c`, point `p`. -/
theorem stored (r : Fin 200) (c : Fin 128) (p : Fin 49) :
    out0_2 (F := Ideal) x0 x1 (ix3 r c p) = ((weight (q r) p.val : ℝ) : EReal) * x1 (ix2 c p) := by
  have h1 : View.ld (Val := Elt Ideal) (e' := .f32) x1 r0_1 = x1 :=
    View.ld_unit_zero (Val := Elt Ideal) (e := .f32) (S := S128x49) zeros2 inb_S128x49_S128x49_0_0 x1
  unfold out0_2
  rw [View.canon_unit_zero (S := S200x128x49) zeros3, h1]
  unfold k0_pay1
  refine congrArg₂ (FloatOps.mulf (F := Ideal) (φ := .f32)) ?_ ?_
  · refine (broadcastTo_apply _ broadcasts_S200x1x49_S200x128x49 (ix3 r c p) (ix3 r (0 : Fin 1) p) fun a => ?_).trans ?_
    · match a with
      | ⟨0, _⟩ => rfl
      | ⟨1, _⟩ => rfl
      | ⟨2, _⟩ => rfl
    refine (shapeCast_apply _ shapeCasts_S200x49_S200x1x49 (ix3 r (0 : Fin 1) p) (ix2 r p) ?_).trans ?_
    · rw [Shape.rowMajor_val_two, Shape.rowMajor_val_three]
      show r.val * 49 + p.val = (r.val * 1 + 0) * 49 + p.val
      omega
    show (k0_pay22 (F := Ideal) (k0_pay33 x0 x1) (ix2 r p)
        * k0_pay21 (F := Ideal) (k0_pay34 x0 x1) (k0_pay35 x0 x1) (ix2 r p))
      * FloatOps.sitofp (F := Ideal) .f32 (BitVec.setWidth 32 (IntOp.andi
          (k0_pay24 (F := Ideal) (k0_pay33 x0 x1) (k0_pay34 x0 x1) (k0_pay35 x0 x1) (ix2 r p))
          (FloatOps.cmpf (F := Ideal) (φ := .f32) .ole (k0_pay23 (F := Ideal) (k0_pay33 x0 x1) (ix2 r p))
            (Ideal.ofBits .f32 0x437F0000#32)))) = _
    rw [fractionX hx hq, fractionY hx hq, mask hx hq, highY hx hq, lit_255, ole_one (show (0 : ℝ) ≤ 255 by norm_num)]
    refine (congrArg (_ * ·) (word_nat 1 (by norm_num))).trans ?_
    rw [← EReal.coe_mul, ← EReal.coe_mul]
    unfold weight
    norm_num
  · refine (broadcastTo_apply _ broadcasts_S1x128x49_S200x128x49 (ix3 r c p) (ix3 (0 : Fin 1) c p) fun a => ?_).trans ?_
    · match a with
      | ⟨0, _⟩ => rfl
      | ⟨1, _⟩ => rfl
      | ⟨2, _⟩ => rfl
    refine (shapeCast_apply _ shapeCasts_S128x49_S1x128x49 (ix3 (0 : Fin 1) c p) (ix2 c p) ?_).trans ?_
    · rw [Shape.rowMajor_val_two, Shape.rowMajor_val_three]
      show c.val * 49 + p.val = (0 * 128 + c.val) * 49 + p.val
      omega
    rw [shapeCast_self]

end Weight

end Cert.Proof.KernelBlock

end

end
-- ==== Proof.KernelValue.lean ====
/- The kernel's run at the ideal values: the host lines before the launch, the blocks of the 25 grid points, the output
   array from its blocks, and the final reshape. -/
module

public import proofs.«01_k».proof.Proof.KernelBlock
public import Idealize.ShloMosaic.Lib.Pipeline.ValueKit.Geometry
public import Idealize.ShloMosaic.Lib.KernelVsHost

@[expose] public section

noncomputable section

namespace Cert.Proof.KernelValue

open Idealize.ShloMosaic Idealize.ShloMosaic.TcCoe Idealize.ShloMosaic.ValueIdx Idealize.SL.Sem
open Cert.KernelIdeal Cert.KernelIdeal.Gen
open Cert.Proof.Geometry Cert.Proof.Target Cert.Proof.KernelBlock

variable (m : (ℓ : Loc nD τ sig) → Buf (Elt Ideal) ℓ)

/-- The feature map the launch finds on core `c`. -/
def feature (c : Dev nD) : S1x128x256x256.Idx → EReal := m ((c.tc : Thread nD τ).loc main_arg0)

/-- The regions the launch finds on core `c`. -/
def regions (c : Dev nD) : S5000x6.Idx → EReal := m ((c.tc : Thread nD τ).loc main_arg1)

/-! ## The host lines before the launch -/

/-- The regions the pipeline reads are the argument with two columns appended. -/
theorem padded_eq (c : Dev nD) :
    (V m c main_call0_v0 : S5000x8.Idx → EReal)
      = pad S5000x8 ![0, 0] ![0, 2] ![0, 0] (regions m c) (sitofp (F := Ideal) .f32 (constantI S_ 32 0#32))
          pads_S5000x6_S5000x8_000_020 h_S_ := by
  show StableHlo.after [_, _, _, _, _, _, _] _ _ = _
  after_results
  rfl

/-- The pixels the pipeline reads are entry `(0, c, 0, 0)` of the feature map, spread over the sampling points. -/
theorem pixels_eq (c : Dev nD) :
    (V m c main_call0_v4 : S128x49.Idx → EReal)
      = broadcastInDim S128x49 ![0, 1] bcast_S128x1_S128x49_0_1 (broadcastInDim S128x1 ![0] bcast_S128_S128x1_0
          (shapeCast S128 (extractStridedSlice S1x128x1x1 ![0, 0, 0, 0] (feature m c)
            slices_S1x128x256x256_S1x128x1x1_0_0_0_0) shapeCasts_S1x128x1x1_S128)) := by
  show StableHlo.after [_, _, _, _, _, _, _] _ _ = _
  after_results
  rfl

/-- A region's number in the padded array. -/
theorem padded_apply (c : Dev nD) (k : Fin 5000) (j : Fin 6) :
    (V m c main_call0_v0 : S5000x8.Idx → EReal) (ix2 k (⟨j.val, j.isLt.trans (by decide)⟩ : Fin 8)) = regions m c (ix2 k j) := by
  rw [padded_eq]
  refine pad_apply_of_inside _ _ _ _ _ _ _ _ (ix2 k j) fun a => ?_
  match a with
  | ⟨0, _⟩ => show k.val = 0 + k.val * (0 + 1); omega
  | ⟨1, _⟩ => show j.val = 0 + j.val * (0 + 1); omega

/-- A channel's pixel at a sampling point. -/
theorem pixels_apply (c : Dev nD) (d : Fin 128) (p : Fin 49) :
    (V m c main_call0_v4 : S128x49.Idx → EReal) (ix2 d p) = feature m c (ix4 (0 : Fin 1) d (0 : Fin 256) (0 : Fin 256)) := by
  rw [pixels_eq]
  refine (broadcastInDim_apply _ _ _ (ix2 d p) (ix2 d (0 : Fin 1)) fun a => ?_).trans ?_
  · match a with
    | ⟨0, _⟩ => rfl
    | ⟨1, _⟩ => rfl
  refine (broadcastInDim_apply _ _ _ (ix2 d (0 : Fin 1)) (ix1 d) fun a => ?_).trans ?_
  · match a with
    | ⟨0, _⟩ => rfl
  refine (shapeCast_apply _ shapeCasts_S1x128x1x1_S128 (ix1 d) (ix4 (0 : Fin 1) d (0 : Fin 1) (0 : Fin 1)) ?_).trans ?_
  · rw [Shape.rowMajor_val_four, Shape.rowMajor_val_one]
    show ((0 * 128 + d.val) * 1 + 0) * 1 + 0 = d.val
    omega
  refine extractStridedSlice_apply _ _ _ _ (ix4 (0 : Fin 1) d (0 : Fin 256) (0 : Fin 256)) fun a => ?_
  match a with
  | ⟨0, _⟩ => rfl
  | ⟨1, _⟩ => exact (Nat.zero_add d.val).symm
  | ⟨2, _⟩ => rfl
  | ⟨3, _⟩ => rfl

/-! ## The blocks -/

/-- The regions' window moves one block of rows per grid point, -/
theorem index0 : ∀ t : Fin grid0.N, win0_0.index t = ![t.val, 0] := by decide +kernel
/-- the pixels' window stays, -/
theorem index1 : ∀ t : Fin grid0.N, win0_1.index t = ![0, 0] := by decide +kernel
/-- and the output's window moves with the regions'. -/
theorem index2 : ∀ t : Fin grid0.N, win0_2.index t = ![t.val, 0, 0] := by decide +kernel

/-- The row of the whole array at which row `r` of grid point `t`'s block lies. -/
def row (t : Fin cfg0.N) (r : Fin 200) : Fin 5000 :=
  ⟨t.val * 200 + r.val, by have := t.isLt; have h : cfg0.N = 25 := N_0; omega⟩

/-- The regions' block at point `t`. -/
theorem block0 (c : Dev nD) (t : Fin cfg0.N) (r : Fin 200) (j : Fin 8) :
    (iblk m c 0 t : S200x8.Idx → EReal) (ix2 r j) = (V m c main_call0_v0 : S5000x8.Idx → EReal) (ix2 (row t r) j) := by
  blk_simp [iblk]
  refine congrArg (V m c main_call0_v0 : S5000x8.Idx → EReal) (funext fun a => Fin.ext ?_)
  match a with
  | ⟨0, _⟩ => blk_simp; rw [index0]; rfl
  | ⟨1, _⟩ => blk_simp; rw [index0]; exact (Nat.zero_add _)

/-- The pixels' block at any point. -/
theorem block1 (c : Dev nD) (t : Fin cfg0.N) (d : Fin 128) (p : Fin 49) :
    (iblk m c 1 t : S128x49.Idx → EReal) (ix2 d p) = (V m c main_call0_v4 : S128x49.Idx → EReal) (ix2 d p) := by
  blk_simp [iblk]
  refine congrArg (V m c main_call0_v4 : S128x49.Idx → EReal) (funext fun a => Fin.ext ?_)
  match a with
  | ⟨0, _⟩ => blk_simp; rw [index1]; exact (Nat.zero_add _)
  | ⟨1, _⟩ => blk_simp; rw [index1]; exact (Nat.zero_add _)

/-- The result on core `c` before its last axis is split, when the regions are the real numbers `y`. -/
def flat (c : Dev nD) (y : S5000x6.Idx → ℝ) : S5000x128x49.Idx → EReal :=
  fun i => expected (feature m c) y (i 0) (i 1) (i 2)

/-- The output array after the run. -/
theorem final (c : Dev nD) {y : S5000x6.Idx → ℝ} (hy : InUnit y) (hr : regions m c = lift y) :
    (dats m 0 c).arrAt 2 cfg0.N = flat m c y := by
  refine (dats m 0 c).arrAt_eq_of_covers 2 _ (by decide +kernel) fun t hf i => ?_
  have hx : Rows (iblk m c 0 t) fun r => region y (row t r) := fun r j => by
    rw [block0, padded_apply, hr]; rfl
  rw [after0_2]
  blk_simp
  obtain ⟨r, d, p, rfl⟩ : ∃ (r : Fin 200) (d : Fin 128) (p : Fin 49), i = ix3 r d p :=
    ⟨i 0, i 1, i 2, funext fun a => match a with | ⟨0, _⟩ => rfl | ⟨1, _⟩ => rfl | ⟨2, _⟩ => rfl⟩
  have e : (win0_2.blk t).view.emb (ix3 r d p) = ix3 (row t r) d p := by
    refine funext fun a => Fin.ext ?_
    match a with
    | ⟨0, _⟩ => blk_simp; rw [index2]; rfl
    | ⟨1, _⟩ => blk_simp; rw [index2]; exact (Nat.zero_add _)
    | ⟨2, _⟩ => blk_simp; rw [index2]; exact (Nat.zero_add _)
  refine (stored hx (fun r j => region_unit hy (row t r) j) _ r d p).trans ?_
  rw [block1, pixels_apply]
  exact (congrArg (flat m c y) e).symm

/-! ## The run -/

/-- The result on core `c`: the flat result, its last axis split into 7 × 7. -/
def result (c : Dev nD) (y : S5000x6.Idx → ℝ) : S5000x128x7x7.Idx → EReal :=
  shapeCast S5000x128x7x7 (flat m c y) shapeCasts_S5000x128x49_S5000x128x7x7

/-- The host line after the launch leaves the result in its buffer. -/
theorem tail (c : Dev nD) {y : S5000x6.Idx → ℝ} (hy : InUnit y) (hr : regions m c = lift y) :
    Pipeline.afterTail₀ cfgs (dats m) 0 (V0 m) [hostOps1] c main_v0 = result m c y := by
  have h : Pipeline.withArrays spec0 c (V0 m c) (fun w => (dats m 0 c).arrAt w cfg0.N) (Proc.devRef .tc main_call0_v5)
      = flat m c y :=
    (Pipeline.withArrays_arr spec0 winFacts0.arr_inj c (V0 m c) _ 2).trans (final m c hy hr)
  unfold Pipeline.afterTail₀
  show StableHlo.after [_] _ _ = _
  after_results
  exact congrArg (fun x => shapeCast S5000x128x7x7 x shapeCasts_S5000x128x49_S5000x128x7x7) h

/-- The kernel's run, from any memory whose regions are real numbers in `[0, 1)` on every core: every core ends with the
    result in its result buffer and its arguments unchanged. -/
theorem run (ρ : Dev nD → PrngReg) (y : Dev nD → S5000x6.Idx → ℝ) (hy : ∀ c, InUnit (y c))
    (hr : ∀ c, regions m c = lift (y c)) :
    θ_run defs (onTc (τ := τ) (main (F := Ideal))) ⟨m, fun _ => 0, ρ⟩ (fun r => ∀ c : Dev nD,
      r.2.mem ((c.tc : Thread nD τ).loc main_v0) = result m c (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨((h.1 c).2 main_v0 (Pipeline.mem_restRefs_of main_v0 (by decide) (by decide))).trans
      (tail m c (hy c) (hr c)), h.2 c⟩)
    (θ_run_and (run_main m ρ) (unchanged m ρ))

end Cert.Proof.KernelValue

end

end
-- ==== Proof.RefSample.lean ====
/- The reference's sampling positions, read at an index: for regions in the unit range, the pixel positions are the real
   numbers of the geometry, and both floors are `-1`. -/
module

public import proofs.«01_k».proof.Proof.Target
public import proofs.«01_k».proof.Proof.Gen.ReferenceIdeal.Read
public import Idealize.ShloMosaic.Lib.IdealHost
public import Idealize.ShloMosaic.Lib.WordArith

@[expose] public section

noncomputable section

namespace Cert.Proof.RefSample

open Idealize.ShloMosaic Idealize.ShloMosaic.ValueIdx
open Cert.ReferenceIdeal Cert.ReferenceIdeal.Gen Cert.ReferenceIdeal.Read
open Cert.Proof.Geometry Cert.Proof.Target Cert.Proof.Consts

variable (y : S5000x6.Idx → ℝ)

/-- The five geometric columns, scaled by the spatial scale. -/
theorem scaled (i : S5000x5.Idx) (j : Fin 6) (hj : j.val = 1 + (i 1).val) :
    val_main_v5 (F := Ideal) (lift y) i = ((region y (i 0) j * (1 / 4) : ℝ) : EReal) := by
  simp only [val_main_v5_apply, val_main_v4_apply, val_main_v3_apply, val_main_cst_apply, Ideal.ofBits_def,
    Ideal.mulf_def, lit_quarter]
  rw [EReal.coe_mul]
  refine congrArg (fun k => ((y k : ℝ) : EReal) * ((1 / 4 : ℝ) : EReal)) (funext fun a => Fin.ext ?_)
  match a with
  | ⟨0, _⟩ => rfl
  | ⟨1, _⟩ => exact hj.symm

/-- A column of one array: the read positions on the row axis agree. -/
theorem row_eq {n : ℕ} (k k' : Fin n) (h : k.val = k'.val) : k = k' := Fin.ext h

/-- The scaled centre x. -/
theorem centreX (i : S5000x1.Idx) : val_main_v8 (F := Ideal) (lift y) i = ((region y (i 0) 1 * (1 / 4) : ℝ) : EReal) := by
  rw [val_main_v8_apply, val_main_v7_apply, val_main_v6_apply, scaled y _ 1 rfl]
  congr 3; exact row_eq _ _ (Nat.div_one _)

/-- The scaled centre y. -/
theorem centreY (i : S5000x1.Idx) : val_main_v11 (F := Ideal) (lift y) i = ((region y (i 0) 2 * (1 / 4) : ℝ) : EReal) := by
  rw [val_main_v11_apply, val_main_v10_apply, val_main_v9_apply, scaled y _ 2 rfl]
  congr 3; exact row_eq _ _ (Nat.div_one _)

/-- The scaled width. -/
theorem width (i : S5000x1.Idx) : val_main_v14 (F := Ideal) (lift y) i = ((region y (i 0) 3 * (1 / 4) : ℝ) : EReal) := by
  rw [val_main_v14_apply, val_main_v13_apply, val_main_v12_apply, scaled y _ 3 rfl]
  congr 3; exact row_eq _ _ (Nat.div_one _)

/-- The scaled height. -/
theorem height (i : S5000x1.Idx) : val_main_v17 (F := Ideal) (lift y) i = ((region y (i 0) 4 * (1 / 4) : ℝ) : EReal) := by
  rw [val_main_v17_apply, val_main_v16_apply, val_main_v15_apply, scaled y _ 4 rfl]
  congr 3; exact row_eq _ _ (Nat.div_one _)

/-- The scaled angle. -/
theorem angle (i : S5000x1.Idx) : val_main_v20 (F := Ideal) (lift y) i = ((region y (i 0) 5 * (1 / 4) : ℝ) : EReal) := by
  rw [val_main_v20_apply, val_main_v19_apply, val_main_v18_apply, scaled y _ 5 rfl]
  congr 3; exact row_eq _ _ (Nat.div_one _)

/-- The first six of the seven evenly spaced base coordinates. -/
theorem spaced (i : S6.Idx) :
    val_main_call0_v15 (F := Ideal) i = ((((i 0).val : ℝ) / 6 - 1 / 2 : ℝ) : EReal) := by
  have h4 : val_main_call0_v4 (F := Ideal) i = (((i 0).val : ℝ) : EReal) := by
    have hi : (i 0).val < 6 := (i 0).isLt
    show (((((BitVec.ofNat 32 (i 0).val).toInt : ℤ) : ℝ)) : EReal) = _
    rw [WordArith.toInt_ofNat_small _ (by omega)]; norm_num
  have h7 : ∀ j, val_main_call0_v7 (F := Ideal) j = ((-(1 / 2) : ℝ) : EReal) := fun j => lit_neg_half
  have h12 : ∀ j, val_main_call0_v12 (F := Ideal) j = ((1 / 2 : ℝ) : EReal) := fun j => lit_half
  simp only [val_main_call0_v15_apply, val_main_call0_v14_apply, val_main_call0_v13_apply, val_main_call0_v11_apply,
    val_main_call0_v10_apply, val_main_call0_v9_apply, val_main_call0_v8_apply, val_main_call0_v6_apply,
    val_main_call0_v5_apply, val_main_call0_cst_0_apply, val_main_call0_cst_1_apply, h4, h7, h12, Ideal.ofBits_def,
    Ideal.mulf_def, Ideal.addf_def, Ideal.subf_def, Ideal.hostDivf_def, lit_six, lit_one]
  rw [div_real _ (by norm_num), ← EReal.coe_sub, ← EReal.coe_mul, ← EReal.coe_mul, ← EReal.coe_add]
  congr 1; ring

/-- The seven evenly spaced base coordinates: `-1/2`, …, `1/2`. -/
theorem base (i : S7.Idx) : val_main_v21 (F := Ideal) i = ((((i 0).val : ℝ) / 6 - 1 / 2 : ℝ) : EReal) := by
  have hi : (i 0).val < 7 := (i 0).isLt
  unfold val_main_v21
  by_cases h : (i 0).val < 6
  · refine (concatenate_pair_apply_left 0 _ _ concatenates_S6_S1_S7_d0 i rfl (ix1 (⟨(i 0).val, h⟩ : Fin 6))
      (fun b => match b with | ⟨0, _⟩ => rfl)).trans (spaced _)
  · have h6 : (i 0).val = 6 := by omega
    refine (concatenate_pair_apply_right 0 _ _ concatenates_S6_S1_S7_d0 i rfl rfl (ix1 (0 : Fin 1))
      (fun b => match b with | ⟨0, _⟩ => fun hb => absurd rfl hb) (by show 0 + 6 = (i 0).val; omega)).trans ?_
    rw [h6, val_main_call0_v16_apply]
    refine lit_half.trans ?_
    congr 1; norm_num

/-- The base coordinates of the other axis are the same seven. -/
theorem base_same : val_main_v22 (F := Ideal) = val_main_v21 (F := Ideal) := rfl

/-- The base x coordinate of a sampling point. -/
theorem pointX (i : S1x49.Idx) : val_main_v26 (F := Ideal) i = ((baseX (i 1).val : ℝ) : EReal) := by
  rw [val_main_v26_apply, val_main_v25_apply, val_main_v24_apply, base_same, base]
  rfl

/-- The base y coordinate of a sampling point. -/
theorem pointY (i : S1x49.Idx) : val_main_v28 (F := Ideal) i = ((baseY (i 1).val : ℝ) : EReal) := by
  rw [val_main_v28_apply, val_main_v27_apply, val_main_v23_apply, base]
  rfl

/-- The sampling point's x coordinate. -/
theorem sampledX (i : S5000x49.Idx) :
    val_main_v43 (F := Ideal) (lift y) i = ((sampleX (region y (i 0)) (i 1).val : ℝ) : EReal) := by
  simp only [val_main_v43_apply, val_main_v42_apply, val_main_v41_apply, val_main_v40_apply, val_main_v39_apply,
    val_main_v38_apply, val_main_v37_apply, val_main_v36_apply, val_main_v35_apply, val_main_v34_apply,
    val_main_v33_apply, val_main_v32_apply, val_main_v31_apply, val_main_v30_apply, val_main_v29_apply,
    pointX, pointY, centreX, width, height, angle, Ideal.mulf_def, Ideal.addf_def, Ideal.subf_def,
    Ideal.hostUnary_sin_def, Ideal.hostUnary_cos_def, Ideal.sin_coe, Ideal.cos_coe,
    ← EReal.coe_mul, ← EReal.coe_sub, ← EReal.coe_add]
  rfl

/-- The sampling point's y coordinate. -/
theorem sampledY (i : S5000x49.Idx) :
    val_main_v50 (F := Ideal) (lift y) i = ((sampleY (region y (i 0)) (i 1).val : ℝ) : EReal) := by
  simp only [val_main_v50_apply, val_main_v49_apply, val_main_v48_apply, val_main_v47_apply, val_main_v46_apply,
    val_main_v45_apply, val_main_v44_apply, val_main_v36_apply, val_main_v35_apply, val_main_v34_apply,
    val_main_v33_apply, val_main_v32_apply, val_main_v31_apply, val_main_v30_apply, val_main_v29_apply,
    pointX, pointY, centreY, width, height, angle, Ideal.mulf_def, Ideal.addf_def, Ideal.subf_def,
    Ideal.hostUnary_sin_def, Ideal.hostUnary_cos_def, Ideal.sin_coe, Ideal.cos_coe,
    ← EReal.coe_mul, ← EReal.coe_sub, ← EReal.coe_add]
  rfl

/-- The pixel column position. -/
theorem pixelX (i : S5000x49.Idx) :
    val_main_v70 (F := Ideal) (lift y) i = ((gridPos (sampleX (region y (i 0)) (i 1).val) : ℝ) : EReal) := by
  simp only [val_main_v70_apply, val_main_v69_apply, val_main_v68_apply, val_main_v67_apply, val_main_v66_apply,
    val_main_v65_apply, val_main_v64_apply, val_main_v63_apply, val_main_v56_apply, val_main_v55_apply,
    val_main_v54_apply, val_main_v53_apply, val_main_v52_apply, val_main_v51_apply, val_main_cst_4_apply,
    val_main_cst_5_apply, val_main_cst_6_apply, val_main_cst_10_apply, val_main_cst_11_apply, val_main_cst_12_apply,
    val_main_cst_13_apply, sampledX, Ideal.ofBits_def, Ideal.mulf_def, Ideal.addf_def, Ideal.subf_def,
    Ideal.hostDivf_def, lit_one, lit_two, lit_255, lit_256]
  exact grid_div _

/-- The pixel row position. -/
theorem pixelY (i : S5000x49.Idx) :
    val_main_v78 (F := Ideal) (lift y) i = ((gridPos (sampleY (region y (i 0)) (i 1).val) : ℝ) : EReal) := by
  simp only [val_main_v78_apply, val_main_v77_apply, val_main_v76_apply, val_main_v75_apply, val_main_v74_apply,
    val_main_v73_apply, val_main_v72_apply, val_main_v71_apply, val_main_v62_apply, val_main_v61_apply,
    val_main_v60_apply, val_main_v59_apply, val_main_v58_apply, val_main_v57_apply, val_main_cst_7_apply,
    val_main_cst_8_apply, val_main_cst_9_apply, val_main_cst_14_apply, val_main_cst_15_apply, val_main_cst_16_apply,
    val_main_cst_17_apply, sampledY, Ideal.ofBits_def, Ideal.mulf_def, Ideal.addf_def, Ideal.subf_def,
    Ideal.hostDivf_def, lit_one, lit_two, lit_255, lit_256]
  exact grid_div _

variable {y} (hy : InUnit y)
include hy

/-- The lower pixel column is `-1`. -/
theorem lowX (i : S5000x49.Idx) : val_main_v79 (F := Ideal) (lift y) i = ((-1 : ℝ) : EReal) := by
  have h : ⌊gridPos (sampleX (region y (i 0)) (i 1).val)⌋ = -1 := floor_sampleX (region_unit hy (i 0)) (i 1).isLt
  rw [val_main_v79_apply, pixelX, Ideal.hostUnary_floor_def, Ideal.liftRound_coe]
  exact (congrArg (fun z : ℤ => ((z : ℝ) : EReal)) h).trans (by norm_num)

/-- The lower pixel row is `-1`. -/
theorem lowY (i : S5000x49.Idx) : val_main_v80 (F := Ideal) (lift y) i = ((-1 : ℝ) : EReal) := by
  have h : ⌊gridPos (sampleY (region y (i 0)) (i 1).val)⌋ = -1 := floor_sampleY (region_unit hy (i 0)) (i 1).isLt
  rw [val_main_v80_apply, pixelY, Ideal.hostUnary_floor_def, Ideal.liftRound_coe]
  exact (congrArg (fun z : ℤ => ((z : ℝ) : EReal)) h).trans (by norm_num)

/-- The upper pixel column is `0`. -/
theorem highX (i : S5000x49.Idx) : val_main_v218 (F := Ideal) (lift y) i = ((0 : ℝ) : EReal) := by
  simp only [val_main_v218_apply, val_main_v217_apply, val_main_cst_64_apply, lowX hy, Ideal.ofBits_def,
    Ideal.addf_def, lit_one, ← EReal.coe_add]
  norm_num

/-- The upper pixel row is `0`. -/
theorem highY (i : S5000x49.Idx) : val_main_v216 (F := Ideal) (lift y) i = ((0 : ℝ) : EReal) := by
  simp only [val_main_v216_apply, val_main_v215_apply, val_main_cst_63_apply, lowY hy, Ideal.ofBits_def,
    Ideal.addf_def, lit_one, ← EReal.coe_add]
  norm_num

/-- The weight of the pixel at the upper corner on both axes. -/
theorem weighted (i : S5000x49.Idx) :
    val_main_v274 (F := Ideal) (lift y) i = ((weight (region y (i 0)) (i 1).val : ℝ) : EReal) := by
  simp only [val_main_v274_apply, val_main_v84_apply, val_main_v81_apply, lowX hy, lowY hy, pixelX, pixelY,
    Ideal.mulf_def, Ideal.subf_def, ← EReal.coe_sub, ← EReal.coe_mul, sub_neg_eq_add]
  rfl

end Cert.Proof.RefSample

end

end
-- ==== Proof.RefValue.lean ====
/- The reference's result, read at an index. Three of the four corners lie outside the map, so their masks are `0` and
   their terms vanish, whatever their gathers read; the fourth is pixel `(0, 0)`, read at batch `0` with mask `1`. -/
module

public import proofs.«01_k».proof.Proof.RefSample

@[expose] public section

noncomputable section

namespace Cert.Proof.RefValue

open Idealize.ShloMosaic Idealize.ShloMosaic.ValueIdx
open Cert.ReferenceIdeal Cert.ReferenceIdeal.Gen Cert.ReferenceIdeal.Read
open Cert.Proof.Geometry Cert.Proof.Target Cert.Proof.Consts Cert.Proof.RefSample

variable (x0 : S1x128x256x256.Idx → EReal) {y : S5000x6.Idx → ℝ} (hy : InUnit y)

section Masks
include hy

/-- The mask of the lower row and lower column is `0`. -/
theorem mask00 (i : S5000x49.Idx) : val_main_v98 (F := Ideal) (lift y) i = 0#1 := by
  simp only [val_main_v98_apply, val_main_v95_apply, val_main_v94_apply, val_main_v93_apply, val_main_cst_22_apply,
    lowY hy, Ideal.ofBits_def, lit_zero, oge_zero (show (-1 : ℝ) < 0 by norm_num), andi_zero_right, andi_zero_left]

/-- The mask of the lower row and upper column is `0`. -/
theorem mask01 (i : S5000x49.Idx) : val_main_v141 (F := Ideal) (lift y) i = 0#1 := by
  simp only [val_main_v141_apply, val_main_v138_apply, val_main_v137_apply, val_main_v136_apply, val_main_cst_36_apply,
    lowY hy, Ideal.ofBits_def, lit_zero, oge_zero (show (-1 : ℝ) < 0 by norm_num), andi_zero_right, andi_zero_left]

/-- The mask of the upper row and lower column is `0`. -/
theorem mask10 (i : S5000x49.Idx) : val_main_v184 (F := Ideal) (lift y) i = 0#1 := by
  simp only [val_main_v184_apply, val_main_v181_apply, val_main_v178_apply, val_main_v175_apply, val_main_v174_apply,
    val_main_cst_49_apply, lowX hy, Ideal.ofBits_def, lit_zero, oge_zero (show (-1 : ℝ) < 0 by norm_num),
    andi_zero_left]

/-- The mask of the upper row and upper column is `1`. -/
theorem mask11 (i : S5000x49.Idx) : val_main_v229 (F := Ideal) (lift y) i = 1#1 := by
  simp only [val_main_v229_apply, val_main_v228_apply, val_main_v227_apply, val_main_v226_apply, val_main_v225_apply,
    val_main_v224_apply, val_main_v223_apply, val_main_v222_apply, val_main_v221_apply, val_main_v220_apply,
    val_main_v219_apply, val_main_cst_65_apply, val_main_cst_66_apply, val_main_cst_67_apply, val_main_cst_68_apply,
    highX hy, highY hy, Ideal.ofBits_def, lit_zero, lit_255, oge_one (le_refl (0 : ℝ)),
    ole_one (show (0 : ℝ) ≤ 255 by norm_num)]
  rfl

end Masks

/-- The bit `0` as a float is `0`. -/
theorem bit_zero : FloatOps.uitofp (F := Ideal) .f32 0#1 = (0 : EReal) := by
  show (((0#1).toNat : ℝ) : EReal) = 0
  simp

/-- The bit `1` as a float is `1`. -/
theorem bit_one : FloatOps.uitofp (F := Ideal) .f32 1#1 = (1 : EReal) := by
  show (((1#1).toNat : ℝ) : EReal) = 1
  simp

/-- The word `0` as a float is `0`. -/
theorem word_zero : FloatOps.sitofp (F := Ideal) .f32 0#32 = ((0 : ℝ) : EReal) := by
  show (((0#32).toInt : ℝ) : EReal) = ((0 : ℝ) : EReal)
  simp

/-- The word `255` as a float is `255`. -/
theorem word_255 : FloatOps.sitofp (F := Ideal) .f32 255#32 = ((255 : ℝ) : EReal) := by
  show (((255#32).toInt : ℝ) : EReal) = ((255 : ℝ) : EReal)
  rw [WordArith.toInt_ofNat_small 255 (by norm_num)]
  norm_num

/-- Clamping `0` to `[0, 255]` and rounding gives the word `0`. -/
theorem clamp_zero :
    FloatOps.fptosi (F := Ideal) (φ := .f32) 32 (min ((255 : ℝ) : EReal) (max ((0 : ℝ) : EReal) ((0 : ℝ) : EReal))) = 0#32 := by
  rw [max_self, min_eq_right (EReal.coe_le_coe_iff.2 (by norm_num))]
  exact trunc_unit le_rfl one_pos

/-- The word `0` is not negative, so the wrap-around of a negative index keeps it. -/
theorem keep_zero (a : BitVec 32) : Scalar.select (IntOp.cmpi .slt 0#32 0#32) a 0#32 = 0#32 := rfl

section Indices
include hy

/-- The batch index is `0`. -/
theorem batch_zero (i : S5000x49x1.Idx) : val_main_v251 (F := Ideal) (lift y) i = 0#32 := by
  have h2 : ∀ j, val_main_v2 (F := Ideal) (lift y) j = 0#32 := fun j => by
    rw [val_main_v2_apply, val_main_v1_apply, val_main_v0_apply]
    exact trunc_unit (hy _).1 (hy _).2
  simp only [val_main_v251_apply, val_main_v250_apply, val_main_v239_apply, val_main_v236_apply, val_main_v235_apply,
    val_main_v234_apply, val_main_c_73_apply, h2, keep_zero]

/-- The row index is `0`. -/
theorem row_zero (i : S5000x49x1.Idx) : val_main_v252 (F := Ideal) (lift y) i = 0#32 := by
  have h : ∀ j, val_main_v233 (F := Ideal) (lift y) j = 0#32 := fun j => by
    simp only [val_main_v233_apply, val_main_v232_apply, val_main_call9_v4_apply, val_main_call9_v3_apply,
      val_main_call9_v2_apply, val_main_call9_v1_apply, val_main_call9_v0_apply, val_main_c_71_apply,
      val_main_c_72_apply, highY hy, word_zero, word_255, Ideal.minimumf_def, Ideal.maximumf_def]
    exact clamp_zero
  simp only [val_main_v252_apply, val_main_v244_apply, val_main_v241_apply, val_main_v240_apply, val_main_c_75_apply,
    h, keep_zero]

/-- The column index is `0`. -/
theorem column_zero (i : S5000x49x1.Idx) : val_main_v253 (F := Ideal) (lift y) i = 0#32 := by
  have h : ∀ j, val_main_v231 (F := Ideal) (lift y) j = 0#32 := fun j => by
    simp only [val_main_v231_apply, val_main_v230_apply, val_main_call8_v4_apply, val_main_call8_v3_apply,
      val_main_call8_v2_apply, val_main_call8_v1_apply, val_main_call8_v0_apply, val_main_c_69_apply,
      val_main_c_70_apply, highX hy, word_zero, word_255, Ideal.minimumf_def, Ideal.maximumf_def]
    exact clamp_zero
  simp only [val_main_v253_apply, val_main_v249_apply, val_main_v246_apply, val_main_v245_apply, val_main_c_77_apply,
    h, keep_zero]

/-- All three components of every start index are `0`. -/
theorem start_zero (i : S5000x49x3.Idx) : val_main_v254 (F := Ideal) (lift y) i = 0#32 := by
  have hi : (i 2).val < 3 := (i 2).isLt
  have off : ∀ b : Fin S5000x49x1.rank, b.cast rfl ≠ (2 : Fin 3) →
      ((ix3 (i 0) (i 1) (0 : Fin 1) : S5000x49x1.Idx) b).val = (i (b.cast rfl)).val := fun b hb =>
    match b with
    | ⟨0, _⟩ => rfl
    | ⟨1, _⟩ => rfl
    | ⟨2, _⟩ => absurd rfl hb
  let xs : List ((s : Shape) × (s.Idx → BitVec 32)) := [⟨S5000x49x1, val_main_v251 (F := Ideal) (lift y)⟩,
    ⟨S5000x49x1, val_main_v252 (F := Ideal) (lift y)⟩, ⟨S5000x49x1, val_main_v253 (F := Ideal) (lift y)⟩]
  unfold val_main_v254
  rcases (show (i 2).val = 0 ∨ (i 2).val = 1 ∨ (i 2).val = 2 by omega) with h | h | h
  · exact (concatenate_apply_piece (2 : Fin S5000x49x3.rank) xs _ i 0 (by show 0 < 3; decide) S5000x49x1
      (val_main_v251 (F := Ideal) (lift y)) rfl rfl 0 rfl (ix3 (i 0) (i 1) (0 : Fin 1)) off h.symm).trans (batch_zero hy _)
  · exact (concatenate_apply_piece (2 : Fin S5000x49x3.rank) xs _ i 1 (by show 1 < 3; decide) S5000x49x1
      (val_main_v252 (F := Ideal) (lift y)) rfl rfl 1 rfl (ix3 (i 0) (i 1) (0 : Fin 1)) off h.symm).trans (row_zero hy _)
  · exact (concatenate_apply_piece (2 : Fin S5000x49x3.rank) xs _ i 2 (by show 2 < 3; decide) S5000x49x1
      (val_main_v253 (F := Ideal) (lift y)) rfl rfl 2 rfl (ix3 (i 0) (i 1) (0 : Fin 1)) off h.symm).trans (column_zero hy _)

end Indices

/-- With every start index `0` the gather reads pixel `(0, 0)` of batch `0` at the result's channel. -/
theorem gather_origin (x : S1x256x256x128.Idx → EReal) (idx : IVec S5000x49x3 32) (hz : ∀ i, idx i = 0#32)
    (i : S5000x49x128.Idx) :
    Host.gather gather_S1x256x256x128_S5000x49x3_S5000x49x128_2_012_n_n_012_2_111128 x idx i
      = x (ix4 (0 : Fin 1) (0 : Fin 256) (0 : Fin 256) (i 2)) := by
  unfold Host.gather
  refine congrArg x (funext fun a => Fin.ext ?_)
  generalize hd : gather_S1x256x256x128_S5000x49x3_S5000x49x128_2_012_n_n_012_2_111128 = d
  have hc : d.collapsedSliceDims = [0, 1, 2] := by rw [← hd]; rfl
  have ho : d.operandBatchingDims = [] := by rw [← hd]; rfl
  have hs : d.start i idx a = 0 := by
    unfold GatherDims.start
    split
    · rw [hz]; exact Nat.zero_min _
    · rfl
  have hb : d.batchCoord i a = 0 := d.batchCoord_eq_zero _ _ (by rw [ho]; exact List.not_mem_nil)
  have key : d.start i idx a + d.batchCoord i a + d.offCoord i a = d.offCoord i a := by rw [hs, hb]; omega
  refine key.trans ?_
  match a with
  | ⟨0, _⟩ =>
    exact d.offCoord_eq_zero _ _ fun h => ((d.mem_sKept _).1 h).1 (by rw [hc]; exact (by decide : (0 : Fin 4) ∈ [0, 1, 2]))
  | ⟨1, _⟩ =>
    exact d.offCoord_eq_zero _ _ fun h => ((d.mem_sKept _).1 h).1 (by rw [hc]; exact (by decide : (1 : Fin 4) ∈ [0, 1, 2]))
  | ⟨2, _⟩ =>
    exact d.offCoord_eq_zero _ _ fun h => ((d.mem_sKept _).1 h).1 (by rw [hc]; exact (by decide : (2 : Fin 4) ∈ [0, 1, 2]))
  | ⟨3, _⟩ =>
    have hm : (3 : Fin 4) ∈ d.sKept := (d.mem_sKept _).2 ⟨by rw [hc]; decide, by rw [ho]; exact List.not_mem_nil⟩
    unfold GatherDims.offCoord
    refine (dif_pos hm).trans ?_
    subst hd
    rfl

section Corners
include hy

/-- The term of the lower row and lower column vanishes. -/
theorem term00 (i : S5000x49x128.Idx) : val_main_v263 (F := Ideal) x0 (lift y) i = 0 := by
  simp only [val_main_v263_apply, val_main_v128_apply, val_main_v127_apply, val_main_v126_apply, val_main_v125_apply,
    mask00 hy, bit_zero, Ideal.mulf_def, mul_zero, zero_mul]

/-- The term of the lower row and upper column vanishes. -/
theorem term01 (i : S5000x49x128.Idx) : val_main_v267 (F := Ideal) x0 (lift y) i = 0 := by
  simp only [val_main_v267_apply, val_main_v171_apply, val_main_v170_apply, val_main_v169_apply, val_main_v168_apply,
    mask01 hy, bit_zero, Ideal.mulf_def, mul_zero, zero_mul]

/-- The term of the upper row and lower column vanishes. -/
theorem term10 (i : S5000x49x128.Idx) : val_main_v272 (F := Ideal) x0 (lift y) i = 0 := by
  simp only [val_main_v272_apply, val_main_v214_apply, val_main_v213_apply, val_main_v212_apply, val_main_v211_apply,
    mask10 hy, bit_zero, Ideal.mulf_def, mul_zero, zero_mul]

/-- The term of the upper row and upper column: pixel `(0, 0)` times its weight. -/
theorem term11 (i : S5000x49x128.Idx) :
    val_main_v277 (F := Ideal) x0 (lift y) i = expected x0 y (i 0) (i 2) (i 1) := by
  have hg : val_main_v255 (F := Ideal) x0 (lift y) i = x0 (ix4 (0 : Fin 1) (i 2) (0 : Fin 256) (0 : Fin 256)) := by
    unfold val_main_v255
    rw [gather_origin _ _ (start_zero hy), val_main_v87_apply]
    refine congrArg x0 (funext fun a => ?_)
    match a with
    | ⟨0, _⟩ => rfl
    | ⟨1, _⟩ => rfl
    | ⟨2, _⟩ => rfl
    | ⟨3, _⟩ => rfl
  simp only [val_main_v277_apply, val_main_v276_apply, val_main_v275_apply, val_main_v259_apply, val_main_v258_apply,
    val_main_v257_apply, val_main_v256_apply, mask11 hy, bit_one, weighted hy, hg, Ideal.mulf_def, mul_one]
  exact mul_comm _ _

/-- The reference's result before its last reshape. -/
theorem result (i : S5000x128x49.Idx) :
    val_main_v279 (F := Ideal) x0 (lift y) i = expected x0 y (i 0) (i 1) (i 2) := by
  simp only [val_main_v279_apply, val_main_v278_apply, val_main_v273_apply, val_main_v268_apply, term00 x0 hy,
    term01 x0 hy, term10 x0 hy, term11 x0 hy, Ideal.addf_def, zero_add]
  rfl

end Corners

end Cert.Proof.RefValue

end

end
-- ==== Proof.RefRun.lean ====
/- The reference's run at the ideal values: its result buffer ends at the flat result, the last axis split into 7 × 7. -/
module

public import proofs.«01_k».proof.Proof.RefValue
public import proofs.«01_k».proof.Proof.Gen.ReferenceIdeal.Run
public import Idealize.ShloMosaic.Lib.Quiescent

@[expose] public section

noncomputable section

namespace Cert.Proof.RefRun

open Idealize.ShloMosaic Idealize.SL.Sem
open Cert.ReferenceIdeal Cert.ReferenceIdeal.Gen
open Cert.Proof.Target

variable (m : (ℓ : Loc nD τ sig) → Buf (Elt Ideal) ℓ) (ρ : Dev nD → PrngReg)

/-- The result of a feature map and regions, the last axis split into 7 × 7. -/
def result (x0 : S1x128x256x256.Idx → EReal) (y : S5000x6.Idx → ℝ) : S5000x128x7x7.Idx → EReal :=
  shapeCast S5000x128x7x7 (fun i : S5000x128x49.Idx => expected x0 y (i 0) (i 1) (i 2))
    shapeCasts_S5000x128x49_S5000x128x7x7

/-- The reference ends with its arguments unchanged and every semaphore counter at zero (it has no semaphore). -/
theorem quiescent :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩)
    (Cert.ReferenceIdeal.Value.run m ρ)

/-- The reference's run, from any memory whose regions are real numbers in `[0, 1)` on every core: every core ends with
    the result in its result buffer and its arguments unchanged. -/
theorem run (y : Dev nD → S5000x6.Idx → ℝ) (hy : ∀ c, InUnit (y c))
    (hr : ∀ c : Dev nD, m ((c.tc : Thread nD τ).loc main_arg1) = lift (y c)) :
    θ_run defs (onTc (τ := τ) (main (F := Ideal))) ⟨m, fun _ => 0, ρ⟩ (fun r => ∀ c : Dev nD,
      r.2.mem ((c.tc : Thread nD τ).loc main_v280) = result (m ((c.tc : Thread nD τ).loc main_arg0)) (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hv : ∀ c : Dev nD, Cert.ReferenceIdeal.Read.val_main_v280 (F := Ideal) (m ((c.tc : Thread nD τ).loc main_arg0))
      (m ((c.tc : Thread nD τ).loc main_arg1)) = result (m ((c.tc : Thread nD τ).loc main_arg0)) (y c) := fun c => by
    rw [hr c]
    exact congrArg (fun x => shapeCast S5000x128x7x7 x shapeCasts_S5000x128x49_S5000x128x7x7)
      (funext fun i => RefValue.result _ (hy c) i)
  exact (θ_run defs _ _).mono
    (fun _ h c => ⟨((h c).1.trans (Cert.ReferenceIdeal.Read.val_main_v280_eq _)).trans (hv c), (h c).2⟩)
    (Cert.ReferenceIdeal.Value.run m ρ)

end Cert.Proof.RefRun

end

end
-- ==== Proof.Precondition.lean ====
/- What the precondition says: every entry of the regions is a real number in `[0, 1)`. -/
module

public import proofs.«01_k».proof.Proof.Target
public import proofs.«01_k».proof.Pre_unit_rois
public import Idealize.ShloMosaic.PureOps.Ideal

@[expose] public section

noncomputable section

namespace Cert.Proof.Precondition

open Idealize.ShloMosaic
open Cert.Pre_unit_rois Cert.Proof.Target Cert.Proof.Consts

/-- The predicate's one shape relation holds. -/
theorem facts : Cert.Pre_unit_rois.Facts where
  bcast_S_S5000x6 := by decide

/-- A conjunction of two bits is `1` only where both are. -/
theorem andi_one : ∀ a b : BitVec 1, IntOp.andi a b = 1#1 → a = 1#1 ∧ b = 1#1 := by decide

/-- The bit of a decided proposition is `1` only where it holds. -/
theorem of_bit {p : Prop} [Decidable p] (h : BitVec.ofBool (decide p) = 1#1) : p := by
  by_contra hp
  rw [decide_eq_false hp] at h
  exact absurd h (by decide)

/-- Where the predicate is `1` everywhere, the regions are real numbers in `[0, 1)`. -/
theorem decoded [Cert.Pre_unit_rois.Facts] (x0 : S1x128x256x256.Idx → EReal) (x1 : S5000x6.Idx → EReal)
    (h : fn (F := Ideal) x0 x1 = fun _ => 1#1) :
    InUnit (fun i => (x1 i).toReal) ∧ x1 = lift fun i => (x1 i).toReal := by
  have hb : ∀ i, (0 : EReal) ≤ x1 i ∧ x1 i < ((1 : ℝ) : EReal) := fun i => by
    have hi : IntOp.andi (BitVec.ofBool (decide (Ideal.ofBits .f32 0x00000000#32 ≤ x1 i)))
        (BitVec.ofBool (decide (x1 i < Ideal.ofBits .f32 0x3F800000#32))) = 1#1 := congrFun h i
    obtain ⟨ha, hc⟩ := andi_one _ _ hi
    have ha := of_bit ha
    have hc := of_bit hc
    rw [lit_zero] at ha
    rw [lit_one] at hc
    exact ⟨ha, hc⟩
  have hreal : ∀ i, (((x1 i).toReal : ℝ) : EReal) = x1 i := fun i =>
    EReal.coe_toReal (ne_top_of_lt (hb i).2) (ne_bot_of_le_ne_bot EReal.zero_ne_bot (hb i).1)
  refine ⟨fun i => ⟨?_, ?_⟩, funext fun i => (hreal i).symm⟩
  · exact EReal.toReal_nonneg (hb i).1
  · exact EReal.coe_lt_coe_iff.1 ((hreal i).symm ▸ (hb i).2)

end Cert.Proof.Precondition

end

end
-- ==== Proof.lean ====
/- The proof of the certificate's claim. Both programs run and end quiescent with their arguments unchanged: the kernel by
   its generated frame, the reference by its generated run. Their results agree: each is the array of `Target.expected`,
   its last axis split into 7 × 7 (`KernelValue.run`, `RefRun.run`), once the precondition is read as "every region is six
   real numbers in `[0, 1)`" (`Precondition.decoded`). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelValue
public import proofs.«01_k».proof.Proof.RefRun
public import proofs.«01_k».proof.Proof.Precondition
public import Idealize.ShloMosaic.Adequacy
public import Idealize.ShloMosaic.Init

@[expose] public section

noncomputable section

namespace Cert.Proof

open Idealize.ShloMosaic Idealize.SL.Sem

/-- The shape facts the programs and the precondition state. -/
local instance : Cert.Pre_unit_rois.Facts := Precondition.facts

/-- From memories that agree on the arguments and whose regions are in `[0, 1)`, the kernel and the reference end with
    equal results. -/
theorem agree : Cert.algebraic_KernelIdeal_ReferenceIdeal_pre_unit_rois := by
  intro m g m' g' hpre hargs
  have hd := fun c => Precondition.decoded _ _ (hpre c)
  refine ⟨fun c => KernelValue.result m c _, KernelValue.run m g _ (fun c => (hd c).1) (fun c => (hd c).2), ?_⟩
  refine (θ_run Cert.ReferenceIdeal.defs _ _).mono (fun _ h c => ⟨(h c).1.trans ?_, (h c).2⟩)
    (RefRun.run m' g' _ (fun c => (hd c).1) (fun c => (hargs c).2.trans (hd c).2))
  exact congrArg (fun x => RefRun.result x _) (hargs c).1

/-- The certificate's claim. -/
theorem claim : Cert.Claim :=
  ⟨Cert.Kernel.Gen.facts, Cert.KernelIdeal.Gen.facts, Cert.ReferenceIdeal.Gen.facts, Precondition.facts,
    fun m ρ _ => Cert.Kernel.Gen.frame m ρ,
    fun m ρ _ => Cert.KernelIdeal.Gen.frame m ρ,
    fun m ρ _ => Cert.KernelIdeal.Gen.frame m ρ,
    fun m ρ _ => RefRun.quiescent m ρ,
    fun m ρ _ => RefRun.quiescent m ρ,
    trivial,
    agree⟩

end Cert.Proof

end
